-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_v182) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S8x4096x4 : Shape := ⟨3, ![8, 4096, 4]⟩
abbrev S8x128x5 : Shape := ⟨3, ![8, 128, 5]⟩
abbrev S8x4096 : Shape := ⟨2, ![8, 4096]⟩
abbrev S_ : Shape := ⟨0, ![]⟩

class Facts : Prop where
  bcast_S_S8x4096 : S_.BroadcastsInDim S8x4096 (![] : Fin 0 → Fin S8x4096.rank)

variable [Facts]

def fn {F : FTy → Type} [FloatOps F] (main_arg0 : FVec F S8x4096x4 .f32) (main_arg1 : FVec F S8x128x5 .f32) (main_arg2 : IVec S8x4096 32) (main_arg3 : IVec S8x4096 32) : IVec S8x4096 1 :=
  let main_c : IVec S_ 32 := constantI S_ 32 0#32
  let main_v0 : IVec S8x4096 32 := broadcastInDim S8x4096 ![] bcast_S_S8x4096 main_c
  let main_v1 : IVec S8x4096 1 := cmpi .sge main_arg3 main_v0
  let main_c_0 : IVec S_ 32 := constantI S_ 32 128#32
  let main_v2 : IVec S8x4096 32 := broadcastInDim S8x4096 ![] bcast_S_S8x4096 main_c_0
  let main_v3 : IVec S8x4096 1 := cmpi .slt main_arg3 main_v2
  let main_v4 : IVec S8x4096 1 := andi main_v1 main_v3
  main_v4
-- ==== Kernel.lean ====
abbrev S8x4096x4 : Shape := ⟨3, ![8, 4096, 4]⟩
abbrev S8x128x5 : Shape := ⟨3, ![8, 128, 5]⟩
abbrev S8x4096 : Shape := ⟨2, ![8, 4096]⟩
abbrev S8x4x4096 : Shape := ⟨3, ![8, 4, 4096]⟩
abbrev S8x1x4096 : Shape := ⟨3, ![8, 1, 4096]⟩
abbrev S8x6x4096 : Shape := ⟨3, ![8, 6, 4096]⟩
abbrev S8x5x128 : Shape := ⟨3, ![8, 5, 128]⟩
abbrev S8x8x8x32768 : Shape := ⟨4, ![8, 8, 8, 32768]⟩
abbrev S4x8x8x32768 : Shape := ⟨4, ![4, 8, 8, 32768]⟩
abbrev S8x32768 : Shape := ⟨2, ![8, 32768]⟩
abbrev S1x6x2048 : Shape := ⟨3, ![1, 6, 2048]⟩
abbrev S1x5x128 : Shape := ⟨3, ![1, 5, 128]⟩
abbrev S8x8x8x2048 : Shape := ⟨4, ![8, 8, 8, 2048]⟩
abbrev S4x8x8x2048 : Shape := ⟨4, ![4, 8, 8, 2048]⟩
abbrev S8x2048 : Shape := ⟨2, ![8, 2048]⟩
abbrev S6x2048 : Shape := ⟨2, ![6, 2048]⟩
abbrev S5x128 : Shape := ⟨2, ![5, 128]⟩
abbrev S1x2048 : Shape := ⟨2, ![1, 2048]⟩
abbrev S128x2048 : Shape := ⟨2, ![128, 2048]⟩
abbrev S5x2048 : Shape := ⟨2, ![5, 2048]⟩
abbrev S8x8x2048 : Shape := ⟨3, ![8, 8, 2048]⟩
abbrev S1x1x2048 : Shape := ⟨3, ![1, 1, 2048]⟩
abbrev S1x8x8x2048 : Shape := ⟨4, ![1, 8, 8, 2048]⟩
abbrev S32768x8x8x8 : Shape := ⟨4, ![32768, 8, 8, 8]⟩
abbrev S32768x4x8x8 : Shape := ⟨4, ![32768, 4, 8, 8]⟩
abbrev S32768x8 : Shape := ⟨2, ![32768, 8]⟩
abbrev S_ : Shape := ⟨0, ![]⟩

abbrev nBuf : Space → Nat
  | .hbm => 21
  | .vmem => 10
  | .smem => 0
  | _ => 0

abbrev bufTy : (tb : Table) → Fin (tcTables nBuf tb) → BufTy
  | .hbm, ⟨0, _⟩ => ⟨S8x4096x4, .f32⟩
  | .hbm, ⟨1, _⟩ => ⟨S8x128x5, .f32⟩
  | .hbm, ⟨2, _⟩ => ⟨S8x4096, .i32⟩
  | .hbm, ⟨3, _⟩ => ⟨S8x4096, .i32⟩
  | .hbm, ⟨4, _⟩ => ⟨S8x4x4096, .f32⟩
  | .hbm, ⟨5, _⟩ => ⟨S8x4096, .f32⟩
  | .hbm, ⟨6, _⟩ => ⟨S8x1x4096, .f32⟩
  | .hbm, ⟨7, _⟩ => ⟨S8x4096, .f32⟩
  | .hbm, ⟨8, _⟩ => ⟨S8x1x4096, .f32⟩
  | .hbm, ⟨9, _⟩ => ⟨S8x6x4096, .f32⟩
  | .hbm, ⟨10, _⟩ => ⟨S8x5x128, .f32⟩
  | .hbm, ⟨11, _⟩ => ⟨S8x8x8x32768, .f32⟩
  | .hbm, ⟨12, _⟩ => ⟨S4x8x8x32768, .f32⟩
  | .hbm, ⟨13, _⟩ => ⟨S8x32768, .i8⟩
  | .hbm, ⟨14, _⟩ => ⟨S32768x8x8x8, .f32⟩
  | .hbm, ⟨15, _⟩ => ⟨S32768x4x8x8, .f32⟩
  | .hbm, ⟨16, _⟩ => ⟨S32768x8, .i8⟩
  | .hbm, ⟨17, _⟩ => ⟨S_, .i8⟩
  | .hbm, ⟨18, _⟩ => ⟨S32768x8, .i8⟩
  | .hbm, ⟨19, _⟩ => ⟨S32768x8, .i1⟩
  | .hbm, ⟨20, _⟩ => ⟨S32768x8, .i1⟩
  | .local _ .vmem, ⟨0, _⟩ => ⟨S1x6x2048, .f32⟩
  | .local _ .vmem, ⟨1, _⟩ => ⟨S1x6x2048, .f32⟩
  | .local _ .vmem, ⟨2, _⟩ => ⟨S1x5x128, .f32⟩
  | .local _ .vmem, ⟨3, _⟩ => ⟨S1x5x128, .f32⟩
  | .local _ .vmem, ⟨4, _⟩ => ⟨S8x8x8x2048, .f32⟩
  | .local _ .vmem, ⟨5, _⟩ => ⟨S8x8x8x2048, .f32⟩
  | .local _ .vmem, ⟨6, _⟩ => ⟨S4x8x8x2048, .f32⟩
  | .local _ .vmem, ⟨7, _⟩ => ⟨S4x8x8x2048, .f32⟩
  | .local _ .vmem, ⟨8, _⟩ => ⟨S8x2048, .i8⟩
  | .local _ .vmem, ⟨9, _⟩ => ⟨S8x2048, .i8⟩
  | _, _ => ⟨S8x4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x6x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x8x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x8x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x4096x4 : Shape := ⟨3, ![8, 4096, 4]⟩
abbrev S8x128x5 : Shape := ⟨3, ![8, 128, 5]⟩
abbrev S8x4096 : Shape := ⟨2, ![8, 4096]⟩
abbrev S8x4096x1 : Shape := ⟨3, ![8, 4096, 1]⟩
abbrev S8x4096x5 : Shape := ⟨3, ![8, 4096, 5]⟩
abbrev S_ : Shape := ⟨0, ![]⟩
abbrev S8x4096x5x1 : Shape := ⟨4, ![8, 4096, 5, 1]⟩
abbrev S1 : Shape := ⟨1, ![1]⟩
abbrev S1x1x1x1 : Shape := ⟨4, ![1, 1, 1, 1]⟩
abbrev S8 : Shape := ⟨1, ![8]⟩
abbrev S1x1x1x8 : Shape := ⟨4, ![1, 1, 1, 8]⟩
abbrev S8x4096x8x8 : Shape := ⟨4, ![8, 4096, 8, 8]⟩
abbrev S1x1x8x1 : Shape := ⟨4, ![1, 1, 8, 1]⟩
abbrev S8x4096x1x1 : Shape := ⟨4, ![8, 4096, 1, 1]⟩
abbrev S8x4096x1x8x8 : Shape := ⟨5, ![8, 4096, 1, 8, 8]⟩
abbrev S8x4096x4x8x8 : Shape := ⟨5, ![8, 4096, 4, 8, 8]⟩
abbrev S8x4096x8x8x8 : Shape := ⟨5, ![8, 4096, 8, 8, 8]⟩
abbrev S32768x8x8x8 : Shape := ⟨4, ![32768, 8, 8, 8]⟩
abbrev S32768x4x8x8 : Shape := ⟨4, ![32768, 4, 8, 8]⟩
abbrev S1x1x8 : Shape := ⟨3, ![1, 1, 8]⟩
abbrev S8x4096x8 : Shape := ⟨3, ![8, 4096, 8]⟩
abbrev S32768x8 : Shape := ⟨2, ![32768, 8]⟩

abbrev nBuf : Space → Nat
  | .hbm => 236
  | .vmem => 0
  | .smem => 0
  | _ => 0

abbrev hbmTy0_0 (i : Nat) : BufTy := match i % 128 with
  | 0 => ⟨S8x4096x4, .f32⟩
  | 1 => ⟨S8x128x5, .f32⟩
  | 2 => ⟨S8x4096, .i32⟩
  | 3 => ⟨S8x4096, .i32⟩
  | 4 => ⟨S8x4096x1, .i32⟩
  | 5 => ⟨S8x4096x5, .i32⟩
  | 6 => ⟨S_, .i32⟩
  | 7 => ⟨S8x4096x5, .i32⟩
  | 8 => ⟨S8x4096x5, .i1⟩
  | 9 => ⟨S_, .i32⟩
  | 10 => ⟨S8x4096x5, .i32⟩
  | 11 => ⟨S8x4096x5, .i32⟩
  | 12 => ⟨S8x4096x5, .i32⟩
  | 13 => ⟨S8x4096x5x1, .i32⟩
  | 14 => ⟨S1, .i32⟩
  | 15 => ⟨S_, .i32⟩
  | 16 => ⟨S8x4096x5x1, .i32⟩
  | 17 => ⟨S8x4096x5x1, .i1⟩
  | 18 => ⟨S1x1x1x1, .i32⟩
  | 19 => ⟨S8x4096x5x1, .i32⟩
  | 20 => ⟨S8x4096x5x1, .i1⟩
  | 21 => ⟨S8x4096x5x1, .i1⟩
  | 22 => ⟨S_, .i1⟩
  | 23 => ⟨S8x4096x5, .i1⟩
  | 24 => ⟨S8x4096x5, .f32⟩
  | 25 => ⟨S_, .f32⟩
  | 26 => ⟨S8x4096x5, .f32⟩
  | 27 => ⟨S8x4096x5, .f32⟩
  | 28 => ⟨S8x4096x1, .f32⟩
  | 29 => ⟨S8x4096, .f32⟩
  | 30 => ⟨S8x4096x1, .f32⟩
  | 31 => ⟨S8x4096, .f32⟩
  | 32 => ⟨S8x4096x1, .f32⟩
  | 33 => ⟨S8x4096, .f32⟩
  | 34 => ⟨S8x4096x1, .f32⟩
  | 35 => ⟨S8x4096, .f32⟩
  | 36 => ⟨S8x4096x1, .f32⟩
  | 37 => ⟨S8x4096, .f32⟩
  | 38 => ⟨S8x4096, .f32⟩
  | 39 => ⟨S_, .f32⟩
  | 40 => ⟨S8x4096, .f32⟩
  | 41 => ⟨S8x4096, .f32⟩
  | 42 => ⟨S8x4096, .f32⟩
  | 43 => ⟨S_, .f32⟩
  | 44 => ⟨S8x4096, .f32⟩
  | 45 => ⟨S8x4096, .f32⟩
  | 46 => ⟨S8x4096, .f32⟩
  | 47 => ⟨S_, .f32⟩
  | 48 => ⟨S8x4096, .f32⟩
  | 49 => ⟨S8x4096, .f32⟩
  | 50 => ⟨S8x4096, .f32⟩
  | 51 => ⟨S_, .f32⟩
  | 52 => ⟨S8x4096, .f32⟩
  | 53 => ⟨S8x4096, .f32⟩
  | 54 => ⟨S_, .f32⟩
  | 55 => ⟨S8x4096, .f32⟩
  | 56 => ⟨S8x4096, .f32⟩
  | 57 => ⟨S8x4096, .f32⟩
  | 58 => ⟨S_, .f32⟩
  | 59 => ⟨S8x4096, .f32⟩
  | 60 => ⟨S8x4096, .f32⟩
  | 61 => ⟨S8x4096, .f32⟩
  | 62 => ⟨S_, .f32⟩
  | 63 => ⟨S8x4096, .f32⟩
  | 64 => ⟨S8x4096, .f32⟩
  | 65 => ⟨S8x4096, .f32⟩
  | 66 => ⟨S_, .f32⟩
  | 67 => ⟨S8x4096, .f32⟩
  | 68 => ⟨S8x4096, .f32⟩
  | 69 => ⟨S8x4096, .f32⟩
  | 70 => ⟨S8x4096x1, .f32⟩
  | 71 => ⟨S8x4096x1, .f32⟩
  | 72 => ⟨S8x4096x1, .f32⟩
  | 73 => ⟨S8x4096x1, .f32⟩
  | 74 => ⟨S8x4096x4, .f32⟩
  | 75 => ⟨S8x4096x1, .f32⟩
  | 76 => ⟨S8x4096, .f32⟩
  | 77 => ⟨S8x4096x1, .f32⟩
  | 78 => ⟨S8x4096, .f32⟩
  | 79 => ⟨S8x4096x1, .f32⟩
  | 80 => ⟨S8x4096, .f32⟩
  | 81 => ⟨S8x4096x1, .f32⟩
  | 82 => ⟨S8x4096, .f32⟩
  | 83 => ⟨S8x4096x1, .f32⟩
  | 84 => ⟨S8x4096, .f32⟩
  | 85 => ⟨S8x4096, .f32⟩
  | 86 => ⟨S8x4096x1, .f32⟩
  | 87 => ⟨S8x4096, .f32⟩
  | 88 => ⟨S8x4096, .f32⟩
  | 89 => ⟨S8x4096x1, .f32⟩
  | 90 => ⟨S8x4096, .f32⟩
  | 91 => ⟨S8x4096, .f32⟩
  | 92 => ⟨S8x4096x1, .f32⟩
  | 93 => ⟨S8x4096, .f32⟩
  | 94 => ⟨S8x4096, .f32⟩
  | 95 => ⟨S8x4096, .f32⟩
  | 96 => ⟨S8x4096, .f32⟩
  | 97 => ⟨S8x4096, .f32⟩
  | 98 => ⟨S_, .f32⟩
  | 99 => ⟨S8x4096, .f32⟩
  | 100 => ⟨S8x4096, .f32⟩
  | 101 => ⟨S8x4096, .f32⟩
  | 102 => ⟨S_, .f32⟩
  | 103 => ⟨S8x4096, .f32⟩
  | 104 => ⟨S8x4096, .f32⟩
  | 105 => ⟨S8x4096, .f32⟩
  | 106 => ⟨S_, .f32⟩
  | 107 => ⟨S8x4096, .f32⟩
  | 108 => ⟨S8x4096, .f32⟩
  | 109 => ⟨S8x4096, .f32⟩
  | 110 => ⟨S_, .f32⟩
  | 111 => ⟨S8x4096, .f32⟩
  | 112 => ⟨S8x4096, .f32⟩
  | 113 => ⟨S8, .f32⟩
  | 114 => ⟨S1x1x1x8, .f32⟩
  | 115 => ⟨S8x4096x8x8, .f32⟩
  | 116 => ⟨S8, .f32⟩
  | 117 => ⟨S1x1x8x1, .f32⟩
  | 118 => ⟨S8x4096x8x8, .f32⟩
  | 119 => ⟨S_, .f32⟩
  | 120 => ⟨S8x4096, .f32⟩
  | 121 => ⟨S8x4096, .f32⟩
  | 122 => ⟨S8x4096, .f32⟩
  | 123 => ⟨S8x4096x1x1, .f32⟩
  | 124 => ⟨S_, .f32⟩
  | 125 => ⟨S8x4096, .f32⟩
  | 126 => ⟨S8x4096, .f32⟩
  | 127 => ⟨S8x4096, .f32⟩
  | _ => ⟨S8x4096x4, .f32⟩

abbrev hbmTy0_1 (i : Nat) : BufTy := match i % 128 with
  | 0 => ⟨S8x4096x1x1, .f32⟩
  | 1 => ⟨S8x4096, .f32⟩
  | 2 => ⟨S8x4096x1x1, .f32⟩
  | 3 => ⟨S8x4096, .f32⟩
  | 4 => ⟨S8x4096x1x1, .f32⟩
  | 5 => ⟨S8x4096x8x8, .f32⟩
  | 6 => ⟨S8x4096x8x8, .f32⟩
  | 7 => ⟨S_, .f32⟩
  | 8 => ⟨S8x4096x8x8, .f32⟩
  | 9 => ⟨S8x4096x8x8, .f32⟩
  | 10 => ⟨S8x4096x8x8, .f32⟩
  | 11 => ⟨S8x4096x8x8, .f32⟩
  | 12 => ⟨S8x4096x8x8, .f32⟩
  | 13 => ⟨S8x4096x8x8, .f32⟩
  | 14 => ⟨S8x4096x8x8, .f32⟩
  | 15 => ⟨S_, .f32⟩
  | 16 => ⟨S8x4096x8x8, .f32⟩
  | 17 => ⟨S8x4096x8x8, .f32⟩
  | 18 => ⟨S8x4096x8x8, .f32⟩
  | 19 => ⟨S8x4096x8x8, .f32⟩
  | 20 => ⟨S8x4096x8x8, .f32⟩
  | 21 => ⟨S8x4096x8x8, .f32⟩
  | 22 => ⟨S8x4096x8x8, .f32⟩
  | 23 => ⟨S8x4096x8x8, .f32⟩
  | 24 => ⟨S_, .f32⟩
  | 25 => ⟨S8x4096x8x8, .f32⟩
  | 26 => ⟨S8x4096x8x8, .f32⟩
  | 27 => ⟨S8x4096x8x8, .f32⟩
  | 28 => ⟨S8x4096x8x8, .f32⟩
  | 29 => ⟨S8x4096x8x8, .f32⟩
  | 30 => ⟨S8x4096x8x8, .f32⟩
  | 31 => ⟨S8x4096x8x8, .i1⟩
  | 32 => ⟨S_, .f32⟩
  | 33 => ⟨S8x4096x8x8, .f32⟩
  | 34 => ⟨S8x4096x8x8, .f32⟩
  | 35 => ⟨S8x4096x8x8, .f32⟩
  | 36 => ⟨S8x4096x8x8, .f32⟩
  | 37 => ⟨S8x4096x8x8, .f32⟩
  | 38 => ⟨S8x4096x8x8, .f32⟩
  | 39 => ⟨S8x4096x8x8, .i1⟩
  | 40 => ⟨S8x4096x8x8, .i1⟩
  | 41 => ⟨S_, .f32⟩
  | 42 => ⟨S8x4096x8x8, .f32⟩
  | 43 => ⟨S8x4096x8x8, .f32⟩
  | 44 => ⟨S8x4096, .f32⟩
  | 45 => ⟨S8x4096x1x1, .f32⟩
  | 46 => ⟨S_, .f32⟩
  | 47 => ⟨S8x4096x8x8, .f32⟩
  | 48 => ⟨S8x4096x8x8, .f32⟩
  | 49 => ⟨S8x4096x8x8, .f32⟩
  | 50 => ⟨S8x4096x8x8, .f32⟩
  | 51 => ⟨S8x4096, .f32⟩
  | 52 => ⟨S8x4096x1x1, .f32⟩
  | 53 => ⟨S_, .f32⟩
  | 54 => ⟨S8x4096x8x8, .f32⟩
  | 55 => ⟨S8x4096x8x8, .f32⟩
  | 56 => ⟨S8x4096x8x8, .f32⟩
  | 57 => ⟨S8x4096x8x8, .f32⟩
  | 58 => ⟨S8x4096, .f32⟩
  | 59 => ⟨S8x4096x1x1, .f32⟩
  | 60 => ⟨S_, .f32⟩
  | 61 => ⟨S8x4096x8x8, .f32⟩
  | 62 => ⟨S8x4096x8x8, .f32⟩
  | 63 => ⟨S8x4096x8x8, .f32⟩
  | 64 => ⟨S8x4096x8x8, .f32⟩
  | 65 => ⟨S8x4096, .f32⟩
  | 66 => ⟨S8x4096x1x1, .f32⟩
  | 67 => ⟨S_, .f32⟩
  | 68 => ⟨S8x4096x8x8, .f32⟩
  | 69 => ⟨S8x4096x8x8, .f32⟩
  | 70 => ⟨S8x4096x8x8, .f32⟩
  | 71 => ⟨S8x4096x8x8, .f32⟩
  | 72 => ⟨S8x4096x1x8x8, .f32⟩
  | 73 => ⟨S8x4096x1x8x8, .f32⟩
  | 74 => ⟨S8x4096x1x8x8, .f32⟩
  | 75 => ⟨S8x4096x1x8x8, .f32⟩
  | 76 => ⟨S8x4096x4x8x8, .f32⟩
  | 77 => ⟨S8x4096x1x8x8, .f32⟩
  | 78 => ⟨S8x4096x8x8x8, .f32⟩
  | 79 => ⟨S32768x8x8x8, .f32⟩
  | 80 => ⟨S32768x4x8x8, .f32⟩
  | 81 => ⟨S_, .i32⟩
  | 82 => ⟨S8x4096, .i32⟩
  | 83 => ⟨S8x4096, .i1⟩
  | 84 => ⟨S_, .i32⟩
  | 85 => ⟨S8x4096, .i32⟩
  | 86 => ⟨S8x4096, .i1⟩
  | 87 => ⟨S_, .f32⟩
  | 88 => ⟨S8x4096, .f32⟩
  | 89 => ⟨S8x4096, .f32⟩
  | 90 => ⟨S_, .f32⟩
  | 91 => ⟨S8x4096, .f32⟩
  | 92 => ⟨S8x4096, .i1⟩
  | 93 => ⟨S8x4096, .i1⟩
  | 94 => ⟨S8, .f32⟩
  | 95 => ⟨S1x1x8, .f32⟩
  | 96 => ⟨S8x4096, .f32⟩
  | 97 => ⟨S8x4096x1, .f32⟩
  | 98 => ⟨S_, .f32⟩
  | 99 => ⟨S8x4096x1, .f32⟩
  | 100 => ⟨S8x4096x1, .f32⟩
  | 101 => ⟨S8x4096x8, .f32⟩
  | 102 => ⟨S8x4096x8, .f32⟩
  | 103 => ⟨S8x4096x8, .i1⟩
  | 104 => ⟨S8x4096x1, .i1⟩
  | 105 => ⟨S8x4096x8, .i1⟩
  | 106 => ⟨S8x4096x8, .i1⟩
  | 107 => ⟨S32768x8, .i1⟩
  | _ => ⟨S8x4096x4, .f32⟩

abbrev hbmTy (i : Nat) : BufTy := match i / 128 with
  | 0 => hbmTy0_0 i
  | 1 => hbmTy0_1 i
  | _ => ⟨S8x4096x4, .f32⟩

abbrev bufTy : (tb : Table) → Fin (tcTables nBuf tb) → BufTy
  | .hbm, ⟨i, _⟩ => hbmTy i
  | _, _ => ⟨S8x4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_1 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_2 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_7 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_8 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_9 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_10 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_11 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_12 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_13 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_14 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_15 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_16 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_17 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_18 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_19 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_20 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_21 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_c : Ref sig .tc := ⟨.hbm, 209, rfl⟩
abbrev main_v161 : Ref sig .tc := ⟨.hbm, 210, rfl⟩
abbrev main_v162 : Ref sig .tc := ⟨.hbm, 211, rfl⟩
abbrev main_c_22 : Ref sig .tc := ⟨.hbm, 212, rfl⟩
abbrev main_v163 : Ref sig .tc := ⟨.hbm, 213, rfl⟩
abbrev main_v164 : Ref sig .tc := ⟨.hbm, 214, rfl⟩
abbrev main_cst_23 : Ref sig .tc := ⟨.hbm, 215, rfl⟩
abbrev main_v165 : Ref sig .tc := ⟨.hbm, 216, rfl⟩
abbrev main_v166 : Ref sig .tc := ⟨.hbm, 217, rfl⟩
abbrev main_cst_24 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_25 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩

abbrev nD : Nat := 1
abbrev τ : Topo := Topo.v7x

variable {F : FTy → Type} [FloatOps F]
-- ==== Proof.Spec.lean ====
/-
  The mathematics of the RoI label map, one box at a time. Every quantity below is an extended real, and every
  operation is exact. `Label`, `Offset` and `Mask` are the three results of the problem at one box and one cell; the
  kernel and the reference are each shown to hold exactly these numbers.
-/
module

public import proofs.«01_k».proof.Proof.Gen.KernelIdeal
public import Idealize.ShloMosaic.Lib.Pointwise

@[expose] public section

noncomputable section

namespace Cert.Roi

open Idealize.ShloMosaic

/-! ## Constants of the problem -/

/-- The number 2. -/
def two : EReal := Ideal.ofBits .f32 0x40000000#32
/-- The zoom factor, the single-precision number nearest 1.1. -/
def ratio : EReal := Ideal.ofBits .f32 0x3F8CCCCD#32
/-- The number of cells along one side of the map, 8. -/
def eight : EReal := Ideal.ofBits .f32 0x41000000#32
/-- The number 1/2: cell `k` has its middle at `k + 1/2`. -/
def half : EReal := Ideal.ofBits .f32 0x3F000000#32
/-- The number of a cell (or of a class) as an extended real. -/
def num (k : ℕ) : EReal := FloatOps.sitofp (F := Ideal) .f32 (BitVec.ofNat 32 k)

/-! ## One axis of a box

`lo` and `hi` are the box's two coordinates on the axis, `g₀` and `g₁` the matched ground truth's. -/

/-- The zoomed box's lower coordinate: the centre less half the zoomed width. -/
def zoomLo (lo hi : EReal) : EReal := Ideal.div (lo + hi) two - Ideal.div ((hi - lo) * ratio) two
/-- The zoomed box's upper coordinate: the centre plus half the zoomed width. -/
def zoomHi (lo hi : EReal) : EReal := Ideal.div (lo + hi) two + Ideal.div ((hi - lo) * ratio) two
/-- The width of one of the eight cells of the zoomed box. -/
def cell (lo hi : EReal) : EReal := Ideal.div (zoomHi lo hi - zoomLo lo hi) eight
/-- A ground-truth coordinate measured from the zoomed box's lower coordinate. -/
def rel (lo hi g : EReal) : EReal := g - zoomLo lo hi
/-- The same, in cells. -/
def edge (lo hi g : EReal) : EReal := Ideal.div (rel lo hi g) (cell lo hi)
/-- Half the ground truth's width, in cells. -/
def sigma (lo hi g₀ g₁ : EReal) : EReal := Ideal.div (Ideal.div (rel lo hi g₁ - rel lo hi g₀) two) (cell lo hi)
/-- The ground truth's centre, in cells. -/
def centre (lo hi g₀ g₁ : EReal) : EReal := Ideal.div (Ideal.div (rel lo hi g₀ + rel lo hi g₁) two) (cell lo hi)
/-- The squared scaled distance of cell `k`'s middle from centre `p`. -/
def term (p s k : EReal) : EReal := Ideal.div (p - k - half) s * Ideal.div (p - k - half) s
/-- Whether cell `k`'s middle lies within `s` of centre `p`. -/
def inside (p s k : EReal) : BitVec 1 := Ideal.cmp .olt (max (k + half - p) (-(k + half - p))) s
/-- The signed distance from cell `k`'s middle to coordinate `q`. -/
def gap (q k : EReal) : EReal := q - (k + half)

/-! ## The three results at one box

`bx` is the box `(x1, y1, x2, y2)` and `gt` its matched ground truth `(x1, y1, x2, y2, class)`. -/

/-- The bell-shaped score of cell `(h, w)`, zero outside the ground truth. -/
def Label (bx : Fin 4 → EReal) (gt : Fin 5 → EReal) (h w : ℕ) : EReal :=
  Scalar.select
    (IntOp.andi (inside (centre (bx 0) (bx 2) (gt 0) (gt 2)) (sigma (bx 0) (bx 2) (gt 0) (gt 2)) (num w))
      (inside (centre (bx 1) (bx 3) (gt 1) (gt 3)) (sigma (bx 1) (bx 3) (gt 1) (gt 3)) (num h)))
    (Ideal.exp (-(term (centre (bx 0) (bx 2) (gt 0) (gt 2)) (sigma (bx 0) (bx 2) (gt 0) (gt 2)) (num w)
      + term (centre (bx 1) (bx 3) (gt 1) (gt 3)) (sigma (bx 1) (bx 3) (gt 1) (gt 3)) (num h))))
    0

/-- The four offsets of cell `(h, w)` to the ground truth's edges: left, top, right, bottom. -/
def Offset (bx : Fin 4 → EReal) (gt : Fin 5 → EReal) (e : Fin 4) (h w : ℕ) : EReal :=
  match e with
  | 0 => gap (edge (bx 0) (bx 2) (gt 0)) (num w)
  | 1 => gap (edge (bx 1) (bx 3) (gt 1)) (num h)
  | 2 => gap (edge (bx 0) (bx 2) (gt 2)) (num w)
  | 3 => gap (edge (bx 1) (bx 3) (gt 3)) (num h)

/-- Whether class `k` is the box's class and the box is a positive match. -/
def Mask (flag : BitVec 32) (gt : Fin 5 → EReal) (k : ℕ) : BitVec 1 :=
  IntOp.andi (Ideal.cmp .oeq (num k) (max (gt 4) (-(gt 4)) - 1))
    (IntOp.andi (IntOp.cmpi .sgt flag 0#32)
      (Ideal.cmp .ogt (Scalar.select (IntOp.cmpi .ne flag 0#32) (gt 4) 0) 0))

/-! ## The three results as whole arrays of the four arguments -/

/-- The ground-truth row a box's id names. -/
def row (id : BitVec 32) : Fin 128 := ⟨id.toNat % 128, Nat.mod_lt _ (by norm_num)⟩

/-- The image of box number `q`, -/
def img (q : Fin 32768) : Fin 8 := ⟨q.val / 4096, by omega⟩
/-- and its place in that image. -/
def place (q : Fin 32768) : Fin 4096 := ⟨q.val % 4096, Nat.mod_lt _ (by norm_num)⟩

/-- Box number `q`. -/
def box (A0 : Cert.KernelIdeal.S8x4096x4.Idx → EReal) (q : Fin 32768) : Fin 4 → EReal :=
  fun r => A0 (ix3 (img q) (place q) r)
/-- The ground truth matched to box number `q`. -/
def truth (A1 : Cert.KernelIdeal.S8x128x5.Idx → EReal) (A3 : Cert.KernelIdeal.S8x4096.Idx → BitVec 32) (q : Fin 32768) :
    Fin 5 → EReal :=
  fun r => A1 (ix3 (img q) (row (A3 (ix2 (img q) (place q)))) r)

/-- The label maps of all boxes, the same for each of the eight classes. -/
def labels (A0 : Cert.KernelIdeal.S8x4096x4.Idx → EReal) (A1 : Cert.KernelIdeal.S8x128x5.Idx → EReal)
    (A3 : Cert.KernelIdeal.S8x4096.Idx → BitVec 32) : Cert.KernelIdeal.S32768x8x8x8.Idx → EReal :=
  fun i => Label (box A0 (i 0)) (truth A1 A3 (i 0)) (i 2).val (i 3).val
/-- The offsets of all boxes. -/
def offsets (A0 : Cert.KernelIdeal.S8x4096x4.Idx → EReal) (A1 : Cert.KernelIdeal.S8x128x5.Idx → EReal)
    (A3 : Cert.KernelIdeal.S8x4096.Idx → BitVec 32) : Cert.KernelIdeal.S32768x4x8x8.Idx → EReal :=
  fun i => Offset (box A0 (i 0)) (truth A1 A3 (i 0)) (i 1) (i 2).val (i 3).val
/-- The class masks of all boxes. -/
def masks (A1 : Cert.KernelIdeal.S8x128x5.Idx → EReal) (A2 A3 : Cert.KernelIdeal.S8x4096.Idx → BitVec 32) :
    Cert.KernelIdeal.S32768x8.Idx → BitVec 1 :=
  fun i => Mask (A2 (ix2 (img (i 0)) (place (i 0)))) (truth A1 A3 (i 0)) (i 1).val

end Cert.Roi

end
-- ==== Proof.KernelBlock.lean ====
/-
  What one grid point of the kernel computes, at one box of its block. `x0` is the block of packed boxes (rows 0–3 the
  coordinates, row 4 the matched id as a number, row 5 the flag as a number) and `x1` the image's ground truths.
-/
module

public import proofs.«01_k».proof.Proof.Spec
public import proofs.«01_k».proof.Proof.Gen.KernelIdeal.Skeleton
public import proofs.«01_k».proof.Proof.Gen.KernelIdeal.Frame

@[expose] public section

noncomputable section

namespace Cert.Roi

open Idealize.ShloMosaic Cert.KernelIdeal Cert.KernelIdeal.Gen

/-- Whether ground truth `k` is the one numbered `v`, as the number 0 or 1. -/
def pick (k : ℕ) (v : EReal) : EReal :=
  FloatOps.sitofp (F := Ideal) .f32 ((Ideal.cmp .oeq (num k) v).setWidth 32)

/-- The block's coordinates of box `l`. -/
def bxOf (x0 : S1x6x2048.Idx → EReal) (l : Fin 2048) : Fin 4 → EReal := fun r => x0 (ix3 0 ⟨r.val, by omega⟩ l)
/-- The ground truth selected for box `l`: each coordinate summed over all ground truths, all but one times zero. -/
def gtOf (x0 : S1x6x2048.Idx → EReal) (x1 : S1x5x128.Idx → EReal) (l : Fin 2048) : Fin 5 → EReal :=
  fun r => ∑ k : Fin 128, x1 (ix3 0 r k) * pick k.val (x0 (ix3 0 4 l))

/-- The class mask as the kernel computes it, from the flag as a number. -/
def FMask (flag : EReal) (gt : Fin 5 → EReal) (k : ℕ) : BitVec 1 :=
  IntOp.andi (Ideal.cmp .oeq (num k) (max (gt 4) (-(gt 4)) - 1))
    (IntOp.andi (Ideal.cmp .ogt flag 0) (Ideal.cmp .ogt (if flag ≠ 0 then gt 4 else 0) 0))

variable (x0 : FVec Ideal S1x6x2048 .f32) (x1 : FVec Ideal S1x5x128 .f32) (l : Fin 2048)

/-! ## The values the three stores share -/

/-- The block without its unit axis. -/
theorem pay3_apply (r : Fin 6) : k0_pay3 (F := Ideal) x0 (ix2 r l) = x0 (ix3 0 r l) := by
  pointwise [k0_pay3]

/-- The matrix product with the selecting matrix: each selected coordinate as its sum. -/
theorem pay5_apply (r : Fin 5) : k0_pay5 (F := Ideal) x0 x1 (ix2 r l) = gtOf x0 x1 l r := by
  pointwise [k0_pay5, dot_S5x128_S128x2048_S5x2048_1_0_0_1_n_n, pay3_apply]
  rfl

/-- The zoomed box's left edge, -/
theorem pay14_apply : k0_pay14 (F := Ideal) x0 (ix2 0 l) = zoomLo (bxOf x0 l 0) (bxOf x0 l 2) := by
  pointwise [k0_pay14, k0_pay10, k0_pay12, k0_pay6, k0_pay8, pay3_apply]
  rfl
/-- its top edge, -/
theorem pay15_apply : k0_pay15 (F := Ideal) x0 (ix2 0 l) = zoomLo (bxOf x0 l 1) (bxOf x0 l 3) := by
  pointwise [k0_pay15, k0_pay11, k0_pay13, k0_pay7, k0_pay9, pay3_apply]
  rfl
/-- its right edge -/
theorem pay16_apply : k0_pay16 (F := Ideal) x0 (ix2 0 l) = zoomHi (bxOf x0 l 0) (bxOf x0 l 2) := by
  pointwise [k0_pay16, k0_pay10, k0_pay12, k0_pay6, k0_pay8, pay3_apply]
  rfl
/-- and its bottom edge. -/
theorem pay17_apply : k0_pay17 (F := Ideal) x0 (ix2 0 l) = zoomHi (bxOf x0 l 1) (bxOf x0 l 3) := by
  pointwise [k0_pay17, k0_pay11, k0_pay13, k0_pay7, k0_pay9, pay3_apply]
  rfl

/-! ## The three stores, at one box -/

/-- The whole block of boxes, read through the body's load, -/
theorem ld0 (y : Vec Ideal S1x6x2048 .f32) : View.ld y r0_0 = y := View.ld_unit_zero (by decide) _ _
/-- and the whole block of ground truths. -/
theorem ld1 (y : Vec Ideal S1x5x128 .f32) : View.ld y r0_1 = y := View.ld_unit_zero (by decide) _ _

/-- The first store: the label map, the same for each class `c`. -/
theorem out2_apply (c h w : Fin 8) :
    out0_2 (F := Ideal) x0 x1 (ix4 c h w l) = Label (bxOf x0 l) (gtOf x0 x1 l) h.val w.val := by
  unfold_out out0_2
  rw [ld0, ld1, View.canon_unit_zero (by decide)]
  pointwise [k0_pay40, k0_pay39, k0_pay38, k0_pay37, k0_pay36, k0_pay35, k0_pay30, k0_pay29, k0_pay28, k0_pay27,
    k0_pay26, k0_pay25, k0_pay24, k0_pay23, k0_pay22, k0_pay21, k0_pay19, k0_pay18,
    pay5_apply, pay14_apply, pay15_apply, pay16_apply, pay17_apply, zero_sub]
  rfl

/-- The second store: the four offsets. -/
theorem out3_apply (e : Fin 4) (h w : Fin 8) :
    out0_3 (F := Ideal) x0 x1 (ix4 e h w l) = Offset (bxOf x0 l) (gtOf x0 x1 l) e h.val w.val := by
  unfold_out out0_3
  rw [ld0, ld1, View.canon_unit_zero (by decide)]
  fin_cases e <;>
  pointwise [k0_pay1, k0_pay31, k0_pay32, k0_pay33, k0_pay34, k0_pay41, k0_pay42, k0_pay43, k0_pay44, k0_pay36, k0_pay35,
    k0_pay26, k0_pay25, k0_pay24, k0_pay23, k0_pay22, k0_pay21, k0_pay19, k0_pay18,
    pay5_apply, pay14_apply, pay15_apply, pay16_apply, pay17_apply]
  all_goals rfl

/-- The third store: the class mask as a byte. -/
theorem out4_apply (k : Fin 8) :
    out0_4 (F := Ideal) x0 x1 (ix2 k l) = (FMask (x0 (ix3 0 5 l)) (gtOf x0 x1 l) k.val).setWidth 8 := by
  unfold_out out0_4
  rw [ld0, ld1, View.canon_unit_zero (by decide)]
  pointwise [k0_pay2, k0_pay4, k0_pay20, pay5_apply, pay3_apply]
  rfl

end Cert.Roi

end
-- ==== Proof.Bridge.lean ====
/-
  The two places where the kernel computes differently from the reference: it reads the matched ground truth by a
  product with a selecting matrix, and it compares the flag as a number instead of as an integer.
-/
module

public import proofs.«01_k».proof.Proof.KernelBlock

@[expose] public section

noncomputable section

namespace Cert.Roi

open Idealize.ShloMosaic Cert.KernelIdeal

/-- An integer word as an extended real. -/
def real (v : BitVec 32) : EReal := FloatOps.sitofp (F := Ideal) .f32 v

theorem real_eq (v : BitVec 32) : real v = ((v.toInt : ℝ) : EReal) := rfl

/-- Distinct integers are distinct numbers. -/
theorem real_inj {v w : BitVec 32} : real v = real w ↔ v.toInt = w.toInt := by
  rw [real_eq, real_eq, EReal.coe_eq_coe_iff, Int.cast_inj]

/-- The condition on an id: it names one of the 128 ground truths. -/
def InRange (id : BitVec 32) : Prop := 0 ≤ id.toInt ∧ id.toInt < 128

/-- An id in range is its row's number. -/
theorem toNat_of_inRange {id : BitVec 32} (h : InRange id) : id.toInt = ((row id).val : ℤ) := by
  obtain ⟨h0, h1⟩ := h
  have hn : id.toInt = (id.toNat : ℤ) := by
    rw [BitVec.toInt_eq_toNat_cond] at h0 ⊢
    split
    · rfl
    · rename_i hc
      rw [if_neg hc] at h0
      have := id.isLt
      omega
  show id.toInt = ((id.toNat % 128 : ℕ) : ℤ)
  omega

/-- The selecting matrix has a one exactly where the row is the id's. -/
theorem pick_real {id : BitVec 32} (h : InRange id) (k : Fin 128) :
    pick k.val (real id) = if k = row id then 1 else 0 := by
  have hk : (BitVec.ofNat 32 k.val).toInt = (k.val : ℤ) := by
    rw [BitVec.toInt_eq_toNat_cond, BitVec.toNat_ofNat]
    have := k.isLt
    rw [Nat.mod_eq_of_lt (by omega), if_pos (by omega)]
  have hiff : real (BitVec.ofNat 32 k.val) = real id ↔ k = row id := by
    rw [real_inj, hk, toNat_of_inRange h, Int.natCast_inj, Fin.ext_iff]
  unfold pick
  show real (BitVec.setWidth 32 (BitVec.ofBool (decide (real (BitVec.ofNat 32 k.val) = real id)))) = _
  by_cases hc : k = row id
  · rw [if_pos hc, decide_eq_true (hiff.2 hc), real_eq]
    simp
  · rw [if_neg hc, decide_eq_false (fun e => hc (hiff.1 e)), real_eq]
    simp

/-- The sum over all ground truths is the one the id names. -/
theorem sum_pick {id : BitVec 32} (h : InRange id) (f : Fin 128 → EReal) :
    ∑ k : Fin 128, f k * pick k.val (real id) = f (row id) := by
  rw [Finset.sum_eq_single (row id)]
  · rw [pick_real h, if_pos rfl, mul_one]
  · intro k _ hk
    rw [pick_real h, if_neg hk, mul_zero]
  · intro hn
    exact absurd (Finset.mem_univ _) hn

/-- The flag compared as a number says what it says compared as an integer. -/
theorem fmask_real (flag : BitVec 32) (gt : Fin 5 → EReal) (k : ℕ) : FMask (real flag) gt k = Mask flag gt k := by
  have hpos : Ideal.cmp .ogt (real flag) 0 = IntOp.cmpi .sgt flag 0#32 := by
    show BitVec.ofBool (decide (0 < real flag)) = BitVec.ofBool (BitVec.slt 0#32 flag)
    congr 1
    rw [real_eq, BitVec.slt_eq_decide]
    simp
  have hne : (real flag ≠ 0) ↔ flag ≠ 0#32 := by
    rw [real_eq, ne_eq, ne_eq, EReal.coe_eq_zero, Int.cast_eq_zero, ← BitVec.toInt_zero (w := 32), BitVec.toInt_inj]
  have hsel : (if real flag ≠ 0 then gt 4 else 0) = Scalar.select (IntOp.cmpi .ne flag 0#32) (gt 4) 0 := by
    show _ = if _ then _ else _
    by_cases hf : flag = 0#32
    · rw [if_neg (by rw [hne]; exact fun h => h hf)]
      subst hf
      rfl
    · rw [if_pos (hne.2 hf)]
      symm
      refine if_pos ?_
      show BitVec.ofBool (flag != 0#32) = 1#1
      rw [bne_iff_ne.2 hf]
      rfl
  unfold FMask Mask
  rw [hpos, hsel]

end Cert.Roi

end
-- ==== Proof.Entry.lean ====
/-
  What the kernel's pipeline is handed: the six rows per box (four coordinates, the matched id, the match flag), the ground
  truths turned so that the five values come first, and block `t` of each.
-/
module

public import proofs.«01_k».proof.Proof.KernelBlock
public import proofs.«01_k».proof.Proof.Bridge
public import Idealize.ShloMosaic.Lib.StableHlo.Run
public import Idealize.ShloMosaic.Lib.Pipeline.ValueKit

@[expose] public section

noncomputable section

namespace Cert.Roi

open Idealize.ShloMosaic Idealize.ShloMosaic.TcCoe Cert.KernelIdeal Cert.KernelIdeal.Gen

variable (m : (ℓ : Loc nD τ sig) → Buf (Elt Ideal) ℓ) (c : Dev nD)

/-- The four argument arrays of device `c`. -/
abbrev a0 : FVec Ideal S8x4096x4 .f32 := m ((c : Thread nD τ).loc main_arg0)
abbrev a1 : FVec Ideal S8x128x5 .f32 := m ((c : Thread nD τ).loc main_arg1)
abbrev a2 : IVec S8x4096 32 := m ((c : Thread nD τ).loc main_arg2)
abbrev a3 : IVec S8x4096 32 := m ((c : Thread nD τ).loc main_arg3)

/-- The six rows per box, from three arrays. -/
def rows (A0 : FVec Ideal S8x4096x4 .f32) (A2 A3 : IVec S8x4096 32) : FVec Ideal S8x6x4096 .f32 :=
  concatenate S8x6x4096 1 [⟨S8x4x4096, transpose S8x4x4096 [0, 2, 1] A0 transposes_S8x4096x4_S8x4x4096_0_2_1⟩,
    ⟨S8x1x4096, broadcastInDim S8x1x4096 ![0, 2] bcast_S8x4096_S8x1x4096_0_2 (sitofp .f32 A3)⟩,
    ⟨S8x1x4096, broadcastInDim S8x1x4096 ![0, 2] bcast_S8x4096_S8x1x4096_0_2 (sitofp .f32 A2)⟩]
    concatenates_S8x4x4096_S8x1x4096_S8x1x4096_S8x6x4096_d1

/-- The first array the pipeline reads is the six rows per box. -/
theorem V_rows : V m c main_v5 = rows (a0 m c) (a2 m c) (a3 m c) := by
  show StableHlo.after hostOps0 (fun b => m (c, b)) (Proc.devRef .tc main_v5) = _
  after_results
  rfl

/-- The second is the ground truths with their last two axes exchanged. -/
theorem V_truths : V m c main_v6 = transpose S8x5x128 [0, 2, 1] (a1 m c) transposes_S8x128x5_S8x5x128_0_2_1 := by
  show StableHlo.after hostOps0 (fun b => m (c, b)) (Proc.devRef .tc main_v6) = _
  after_results

variable (A0 : FVec Ideal S8x4096x4 .f32) (A1 : FVec Ideal S8x128x5 .f32) (A2 A3 : IVec S8x4096 32)

/-- Rows 0 to 3 are the box's coordinates, -/
theorem rows_coord (b : Fin 8) (r : Fin 4) (n : Fin 4096) :
    rows A0 A2 A3 (ix3 b (⟨r.val, by omega⟩ : Fin 6) n) = A0 (ix3 b n r) := by
  fin_cases r <;> pointwise [rows]
/-- row 4 is the matched id -/
theorem rows_id (b : Fin 8) (n : Fin 4096) : rows A0 A2 A3 (ix3 b (4 : Fin 6) n) = real (A3 (ix2 b n)) := by
  pointwise [rows]
  rfl
/-- and row 5 the match flag. -/
theorem rows_flag (b : Fin 8) (n : Fin 4096) : rows A0 A2 A3 (ix3 b (5 : Fin 6) n) = real (A2 (ix2 b n)) := by
  pointwise [rows]
  rfl

/-! ## Block `t` -/

/-- The number of lane `l`'s box in block `t`. -/
def boxNo (t : Fin cfg0.N) (l : Fin 2048) : Fin 32768 :=
  ⟨t.val * 2048 + l.val, by have h : t.val < 16 := t.isLt; omega⟩

theorem index0 : ∀ t : Fin cfg0.N, win0_0.index t (0 : Fin 3) = t.val / 2 ∧ win0_0.index t (1 : Fin 3) = 0
    ∧ win0_0.index t (2 : Fin 3) = t.val % 2 := (by decide +kernel : ∀ t : Fin grid0.N, _)
theorem index1 : ∀ t : Fin cfg0.N, win0_1.index t (0 : Fin 3) = t.val / 2 ∧ win0_1.index t (1 : Fin 3) = 0
    ∧ win0_1.index t (2 : Fin 3) = 0 := (by decide +kernel : ∀ t : Fin grid0.N, _)

/-- Block `t` of the six rows holds the boxes of half an image. -/
theorem emb0 (t : Fin cfg0.N) (r : Fin 6) (l : Fin 2048) :
    ((cfg0.win 0).blk t).view.emb (ix3 (0 : Fin 1) r l) = ix3 (img (boxNo t l)) r (place (boxNo t l)) := by
  obtain ⟨e0, e1, e2⟩ := index0 t
  have ht : t.val < 16 := t.isLt
  have hl : l.val < 2048 := l.isLt
  funext a; apply Fin.ext
  match a with
  | ⟨0, _⟩ => show win0_0.index t (0 : Fin 3) * 1 + 1 * 0 = (t.val * 2048 + l.val) / 4096; omega
  | ⟨1, _⟩ => show win0_0.index t (1 : Fin 3) * 6 + 1 * r.val = r.val; omega
  | ⟨2, _⟩ => show win0_0.index t (2 : Fin 3) * 2048 + 1 * l.val = (t.val * 2048 + l.val) % 4096; omega

/-- Block `t` of the ground truths is those of the same image. -/
theorem emb1 (t : Fin cfg0.N) (r : Fin 5) (k : Fin 128) (l : Fin 2048) :
    ((cfg0.win 1).blk t).view.emb (ix3 (0 : Fin 1) r k) = ix3 (img (boxNo t l)) r k := by
  obtain ⟨e0, e1, e2⟩ := index1 t
  have ht : t.val < 16 := t.isLt
  have hl : l.val < 2048 := l.isLt
  funext a; apply Fin.ext
  match a with
  | ⟨0, _⟩ => show win0_1.index t (0 : Fin 3) * 1 + 1 * 0 = (t.val * 2048 + l.val) / 4096; omega
  | ⟨1, _⟩ => show win0_1.index t (1 : Fin 3) * 5 + 1 * r.val = r.val; omega
  | ⟨2, _⟩ => show win0_1.index t (2 : Fin 3) * 128 + 1 * k.val = k.val; omega

/-- Block `t` of the six rows. -/
abbrev blk0 (t : Fin cfg0.N) : Vec Ideal S1x6x2048 .f32 := iblk m c 0 t
/-- Block `t` of the ground truths. -/
abbrev blk1 (t : Fin cfg0.N) : Vec Ideal S1x5x128 .f32 := iblk m c 1 t

theorem blk0_apply (t : Fin cfg0.N) (r : Fin 6) (l : Fin 2048) : blk0 m c t (ix3 (0 : Fin 1) r l)
    = rows (a0 m c) (a2 m c) (a3 m c) (ix3 (img (boxNo t l)) r (place (boxNo t l))) := by
  show V m c main_v5 (((cfg0.win 0).blk t).view.emb (ix3 (0 : Fin 1) r l)) = _
  rw [emb0, V_rows]

theorem blk1_apply (t : Fin cfg0.N) (r : Fin 5) (k : Fin 128) (l : Fin 2048) : blk1 m c t (ix3 (0 : Fin 1) r k)
    = a1 m c (ix3 (img (boxNo t l)) k r) := by
  show V m c main_v6 (((cfg0.win 1).blk t).view.emb (ix3 (0 : Fin 1) r k)) = _
  rw [emb1 t r k l, V_truths]
  pointwise []

/-- Lane `l` of block `t` holds box `boxNo t l`, -/
theorem bxOf_blk (t : Fin cfg0.N) (l : Fin 2048) : bxOf (blk0 m c t) l = box (a0 m c) (boxNo t l) := by
  funext r
  exact (blk0_apply m c t ⟨r.val, by omega⟩ l).trans (rows_coord _ _ _ _ r _)

/-- its match flag -/
theorem flag_blk (t : Fin cfg0.N) (l : Fin 2048) : blk0 m c t (ix3 (0 : Fin 1) (5 : Fin 6) l)
    = real (a2 m c (ix2 (img (boxNo t l)) (place (boxNo t l)))) :=
  (blk0_apply m c t 5 l).trans (rows_flag _ _ _ _ _)

/-- and, its id in range, selects its ground truth. -/
theorem gtOf_blk (t : Fin cfg0.N) (l : Fin 2048)
    (h : InRange (a3 m c (ix2 (img (boxNo t l)) (place (boxNo t l))))) :
    gtOf (blk0 m c t) (blk1 m c t) l = truth (a1 m c) (a3 m c) (boxNo t l) := by
  funext r
  show ∑ k : Fin 128, blk1 m c t (ix3 (0 : Fin 1) r k) * pick k.val (blk0 m c t (ix3 (0 : Fin 1) (4 : Fin 6) l)) = _
  rw [(blk0_apply m c t 4 l).trans (rows_id _ _ _ _ _)]
  simp only [blk1_apply m c t r _ l]
  exact sum_pick h fun k => a1 m c (ix3 (img (boxNo t l)) k r)

end Cert.Roi

end
-- ==== Proof.KernelArray.lean ====
/-
  The kernel's three results as whole arrays: block `t` of each is the boxes of block `t`, the sixteen blocks cover the
  arrays, and the lines after the pipeline bring the box number to the front and turn the mask's bytes into bits.
-/
module

public import proofs.«01_k».proof.Proof.Entry

@[expose] public section

noncomputable section

namespace Cert.Roi

open Idealize.ShloMosaic Idealize.ShloMosaic.TcCoe Idealize.SL.Sem Cert.KernelIdeal Cert.KernelIdeal.Gen

variable (m : (ℓ : Loc nD τ sig) → Buf (Elt Ideal) ℓ) (c : Dev nD)

/-- The label maps with the box number last, -/
def labelsT : FVec Ideal S8x8x8x32768 .f32 := fun i => labels (a0 m c) (a1 m c) (a3 m c) (ix4 (i 3) (i 0) (i 1) (i 2))
/-- the offsets likewise -/
def offsetsT : FVec Ideal S4x8x8x32768 .f32 := fun i => offsets (a0 m c) (a1 m c) (a3 m c) (ix4 (i 3) (i 0) (i 1) (i 2))
/-- and the class masks, as bytes. -/
def masksT : IVec S8x32768 8 := fun i => (masks (a1 m c) (a2 m c) (a3 m c) (ix2 (i 1) (i 0))).setWidth 8

/-! ## Where block `t` of each result lies -/

theorem index2 : ∀ t : Fin cfg0.N, win0_2.index t (0 : Fin 4) = 0 ∧ win0_2.index t (1 : Fin 4) = 0
    ∧ win0_2.index t (2 : Fin 4) = 0 ∧ win0_2.index t (3 : Fin 4) = t.val := (by decide +kernel : ∀ t : Fin grid0.N, _)
theorem index3 : ∀ t : Fin cfg0.N, win0_3.index t (0 : Fin 4) = 0 ∧ win0_3.index t (1 : Fin 4) = 0
    ∧ win0_3.index t (2 : Fin 4) = 0 ∧ win0_3.index t (3 : Fin 4) = t.val := (by decide +kernel : ∀ t : Fin grid0.N, _)
theorem index4 : ∀ t : Fin cfg0.N, win0_4.index t (0 : Fin 2) = 0 ∧ win0_4.index t (1 : Fin 2) = t.val :=
  (by decide +kernel : ∀ t : Fin grid0.N, _)

theorem emb2 (t : Fin cfg0.N) (i : S8x8x8x2048.Idx) :
    ((cfg0.win 2).blk t).view.emb i = ix4 (i 0) (i 1) (i 2) (boxNo t (i 3)) := by
  obtain ⟨e0, e1, e2, e3⟩ := index2 t
  funext a; apply Fin.ext
  match a with
  | ⟨0, _⟩ => show win0_2.index t (0 : Fin 4) * 8 + 1 * (i 0).val = (i 0).val; omega
  | ⟨1, _⟩ => show win0_2.index t (1 : Fin 4) * 8 + 1 * (i 1).val = (i 1).val; omega
  | ⟨2, _⟩ => show win0_2.index t (2 : Fin 4) * 8 + 1 * (i 2).val = (i 2).val; omega
  | ⟨3, _⟩ => show win0_2.index t (3 : Fin 4) * 2048 + 1 * (i 3).val = t.val * 2048 + (i 3).val; omega

theorem emb3 (t : Fin cfg0.N) (i : S4x8x8x2048.Idx) :
    ((cfg0.win 3).blk t).view.emb i = ix4 (i 0) (i 1) (i 2) (boxNo t (i 3)) := by
  obtain ⟨e0, e1, e2, e3⟩ := index3 t
  funext a; apply Fin.ext
  match a with
  | ⟨0, _⟩ => show win0_3.index t (0 : Fin 4) * 4 + 1 * (i 0).val = (i 0).val; omega
  | ⟨1, _⟩ => show win0_3.index t (1 : Fin 4) * 8 + 1 * (i 1).val = (i 1).val; omega
  | ⟨2, _⟩ => show win0_3.index t (2 : Fin 4) * 8 + 1 * (i 2).val = (i 2).val; omega
  | ⟨3, _⟩ => show win0_3.index t (3 : Fin 4) * 2048 + 1 * (i 3).val = t.val * 2048 + (i 3).val; omega

theorem emb4 (t : Fin cfg0.N) (i : S8x2048.Idx) :
    ((cfg0.win 4).blk t).view.emb i = ix2 (i 0) (boxNo t (i 1)) := by
  obtain ⟨e0, e1⟩ := index4 t
  funext a; apply Fin.ext
  match a with
  | ⟨0, _⟩ => show win0_4.index t (0 : Fin 2) * 8 + 1 * (i 0).val = (i 0).val; omega
  | ⟨1, _⟩ => show win0_4.index t (1 : Fin 2) * 2048 + 1 * (i 1).val = t.val * 2048 + (i 1).val; omega

/-- Every index of each result is in a block that is written back. -/
theorem covers2 : (cfg0.win 2).Covers := (by decide +kernel : win0_2.Covers)
theorem covers3 : (cfg0.win 3).Covers := (by decide +kernel : win0_3.Covers)
theorem covers4 : (cfg0.win 4).Covers := (by decide +kernel : win0_4.Covers)

/-! ## What block `t` holds, the ids in range -/

section Blocks

variable (h : ∀ b n, InRange (a3 m c (ix2 b n)))
include h

/-- Block `t` of the first result holds its boxes' label maps, -/
theorem block2 (t : Fin cfg0.N) (k y x : Fin 8) (l : Fin 2048) :
    out0_2 (F := Ideal) (blk0 m c t) (blk1 m c t) (ix4 k y x l) = labelsT m c (ix4 k y x (boxNo t l)) := by
  refine (out2_apply _ _ l k y x).trans ?_
  rw [bxOf_blk, gtOf_blk m c t l (h _ _)]
  rfl

/-- of the second its boxes' offsets -/
theorem block3 (t : Fin cfg0.N) (e : Fin 4) (y x : Fin 8) (l : Fin 2048) :
    out0_3 (F := Ideal) (blk0 m c t) (blk1 m c t) (ix4 e y x l) = offsetsT m c (ix4 e y x (boxNo t l)) := by
  refine (out3_apply _ _ l e y x).trans ?_
  rw [bxOf_blk, gtOf_blk m c t l (h _ _)]
  rfl

/-- and of the third its boxes' class masks. -/
theorem block4 (t : Fin cfg0.N) (k : Fin 8) (l : Fin 2048) :
    out0_4 (F := Ideal) (blk0 m c t) (blk1 m c t) (ix2 k l) = masksT m c (ix2 k (boxNo t l)) := by
  refine (out4_apply _ _ l k).trans ?_
  rw [flag_blk, gtOf_blk m c t l (h _ _), fmask_real]
  rfl

/-! ## The whole arrays -/

/-- What point `t` writes back is block `t` of the label maps, -/
theorem flushed2 (t : Fin cfg0.N) :
    (dats m 0 c).flushed 2 t = ((cfg0.win 2).blk t).view.read (Elt Ideal) (labelsT m c) := by
  have hX : ∀ i : S8x8x8x2048.Idx,
      out0_2 (F := Ideal) (blk0 m c t) (blk1 m c t) i = labelsT m c (((cfg0.win 2).blk t).view.emb i) := by
    intro i
    have e : i = ix4 (i 0) (i 1) (i 2) (i 3) := funext fun a => by fin_cases a <;> rfl
    rw [emb2]
    exact (congrArg _ e).trans (block2 m c h t (i 0) (i 1) (i 2) (i 3))
  show (cfg0.win 2).cut (grid0.coords t) ((dats m 0 c).after 2 t) = _
  rw [after0_2]
  generalize out0_2 (F := Ideal) (iblk m c 0 t) (iblk m c 1 t) = X at hX ⊢
  generalize labelsT m c = G at hX ⊢
  funext j
  exact hX j

/-- and the blocks cover the array. -/
theorem final2 : (dats m 0 c).arrAt 2 cfg0.N = labelsT m c :=
  (dats m 0 c).arrAt_eq_of_cover 2 _ (fun t _ => flushed2 m c h t) (covers2.cover _ (Memref.isWhole_whole _))

/-- What point `t` writes back is block `t` of the offsets, -/
theorem flushed3 (t : Fin cfg0.N) :
    (dats m 0 c).flushed 3 t = ((cfg0.win 3).blk t).view.read (Elt Ideal) (offsetsT m c) := by
  have hX : ∀ i : S4x8x8x2048.Idx,
      out0_3 (F := Ideal) (blk0 m c t) (blk1 m c t) i = offsetsT m c (((cfg0.win 3).blk t).view.emb i) := by
    intro i
    have e : i = ix4 (i 0) (i 1) (i 2) (i 3) := funext fun a => by fin_cases a <;> rfl
    rw [emb3]
    exact (congrArg _ e).trans (block3 m c h t (i 0) (i 1) (i 2) (i 3))
  show (cfg0.win 3).cut (grid0.coords t) ((dats m 0 c).after 3 t) = _
  rw [after0_3]
  generalize out0_3 (F := Ideal) (iblk m c 0 t) (iblk m c 1 t) = X at hX ⊢
  generalize offsetsT m c = G at hX ⊢
  funext j
  exact hX j

/-- and the blocks cover the array. -/
theorem final3 : (dats m 0 c).arrAt 3 cfg0.N = offsetsT m c :=
  (dats m 0 c).arrAt_eq_of_cover 3 _ (fun t _ => flushed3 m c h t) (covers3.cover _ (Memref.isWhole_whole _))

/-- What point `t` writes back is block `t` of the class masks, -/
theorem flushed4 (t : Fin cfg0.N) :
    (dats m 0 c).flushed 4 t = ((cfg0.win 4).blk t).view.read (Elt Ideal) (masksT m c) := by
  have hX : ∀ i : S8x2048.Idx,
      out0_4 (F := Ideal) (blk0 m c t) (blk1 m c t) i = masksT m c (((cfg0.win 4).blk t).view.emb i) := by
    intro i
    have e : i = ix2 (i 0) (i 1) := funext fun a => by fin_cases a <;> rfl
    rw [emb4]
    exact (congrArg _ e).trans (block4 m c h t (i 0) (i 1))
  show (cfg0.win 4).cut (grid0.coords t) ((dats m 0 c).after 4 t) = _
  rw [after0_4]
  generalize out0_4 (F := Ideal) (iblk m c 0 t) (iblk m c 1 t) = X at hX ⊢
  generalize masksT m c = G at hX ⊢
  funext j
  exact hX j

/-- and the blocks cover the array. -/
theorem final4 : (dats m 0 c).arrAt 4 cfg0.N = masksT m c :=
  (dats m 0 c).arrAt_eq_of_cover 4 _ (fun t _ => flushed4 m c h t) (covers4.cover _ (Memref.isWhole_whole _))

end Blocks

/-! ## The lines after the pipeline -/

/-- The arrays when the pipeline has ended. -/
abbrev ended : Valuation τ sig (Elt Ideal) :=
  Pipeline.withArrays (cfgs 0).spec c (V0 m c) fun w => (dats m 0 c).arrAt w (cfgs 0).N

theorem ended2 : ended m c (Proc.devRef .tc main_v7_0) = (dats m 0 c).arrAt 2 cfg0.N :=
  Pipeline.withArrays_arr spec0 launch0.win.arr_inj c (V0 m c) (fun w => (dats m 0 c).arrAt w cfg0.N) 2
theorem ended3 : ended m c (Proc.devRef .tc main_v7_1) = (dats m 0 c).arrAt 3 cfg0.N :=
  Pipeline.withArrays_arr spec0 launch0.win.arr_inj c (V0 m c) (fun w => (dats m 0 c).arrAt w cfg0.N) 3
theorem ended4 : ended m c (Proc.devRef .tc main_v7_2) = (dats m 0 c).arrAt 4 cfg0.N :=
  Pipeline.withArrays_arr spec0 launch0.win.arr_inj c (V0 m c) (fun w => (dats m 0 c).arrAt w cfg0.N) 4

/-- What the buffer `b` holds at the end. -/
abbrev atEnd (b : Ref sig .tc) : Buf (Elt Ideal) ((c : Thread nD τ).loc b) :=
  Pipeline.afterTail₀ cfgs (dats m) 0 (V0 m) [hostOps1] c b

/-- The first result is the pipeline's first array with the box number first, -/
theorem tail8 : atEnd m c main_v8 = transpose S32768x8x8x8 [3, 0, 1, 2] ((dats m 0 c).arrAt 2 cfg0.N)
    transposes_S8x8x8x32768_S32768x8x8x8_3_0_1_2 := by
  rw [← ended2]
  show StableHlo.after hostOps1 (ended m c) (Proc.devRef .tc main_v8) = _
  generalize ended m c = W
  after_results
/-- the second its second likewise, -/
theorem tail9 : atEnd m c main_v9 = transpose S32768x4x8x8 [3, 0, 1, 2] ((dats m 0 c).arrAt 3 cfg0.N)
    transposes_S4x8x8x32768_S32768x4x8x8_3_0_1_2 := by
  rw [← ended3]
  show StableHlo.after hostOps1 (ended m c) (Proc.devRef .tc main_v9) = _
  generalize ended m c = W
  after_results
/-- the third which bytes of its third are not zero. -/
theorem tail13 : atEnd m c main_v13 = cmpi .ne
    (transpose S32768x8 [1, 0] ((dats m 0 c).arrAt 4 cfg0.N : IVec S8x32768 8) transposes_S8x32768_S32768x8_1_0)
    (broadcastInDim S32768x8 ![] bcast_S_S32768x8 (constantI S_ 8 0#8)) := by
  rw [← ended4]
  show StableHlo.after hostOps1 (ended m c) (Proc.devRef .tc main_v13) = _
  generalize ended m c = W
  after_results
  rfl

/-- A bit widened to a byte is not zero just where it is set. -/
theorem byte_ne (b : BitVec 1) : IntOp.cmpi .ne (b.setWidth 8) 0#8 = b := by
  revert b; decide

variable (h : ∀ b n, InRange (a3 m c (ix2 b n)))
include h

/-- The kernel's first result is the label maps of all boxes, -/
theorem kernel_labels : atEnd m c main_v8 = labels (a0 m c) (a1 m c) (a3 m c) := by
  rw [tail8, final2 m c h]
  funext i
  have e : i = ix4 (i 0) (i 1) (i 2) (i 3) := funext fun a => by fin_cases a <;> rfl
  rw [e]
  generalize i 0 = q, i 1 = k, i 2 = y, i 3 = x
  pointwise [labelsT]

/-- its second the offsets of all boxes -/
theorem kernel_offsets : atEnd m c main_v9 = offsets (a0 m c) (a1 m c) (a3 m c) := by
  rw [tail9, final3 m c h]
  funext i
  have e : i = ix4 (i 0) (i 1) (i 2) (i 3) := funext fun a => by fin_cases a <;> rfl
  rw [e]
  generalize i 0 = q, i 1 = k, i 2 = y, i 3 = x
  pointwise [offsetsT]

/-- and its third the class masks of all boxes. -/
theorem kernel_masks : atEnd m c main_v13 = masks (a1 m c) (a2 m c) (a3 m c) := by
  rw [tail13, final4 m c h]
  funext i
  have e : i = ix2 (i 0) (i 1) := funext fun a => by fin_cases a <;> rfl
  rw [e]
  generalize i 0 = q, i 1 = k
  pointwise [masksT]
  exact byte_ne _

end Cert.Roi

end
-- ==== Proof.RefGather.lean ====
/-
  How the reference reads the matched ground truth: the row of the table the id names. The reference first adds the
  table's height to a negative id, then replaces what an id out of range reads by a not-a-number; an id in range meets
  neither.
-/
module

public import proofs.«01_k».proof.Proof.Bridge
public import proofs.«01_k».proof.Proof.Gen.ReferenceIdeal.Read

@[expose] public section

noncomputable section

namespace Cert.Roi

open Idealize.ShloMosaic Cert.ReferenceIdeal Cert.ReferenceIdeal.Read

variable (A1 : FVec Ideal S8x128x5 .f32) (A3 : IVec S8x4096 32) (b : Fin 8) (n : Fin 4096)

/-- Where the gather reads its start index. -/
theorem siIdx_eq (r : Fin 5) (c : Fin gather_S8x128x5_S8x4096x5x1_S8x4096x5_n_1_02_02_1_3_111.startIndexMap.length) :
    gather_S8x128x5_S8x4096x5x1_S8x4096x5_n_1_02_02_1_3_111.siIdx (ix3 b n r) c = ix4 b n r 0 := by
  funext x
  match x with
  | ⟨0, _⟩ => rfl
  | ⟨1, _⟩ => rfl
  | ⟨2, _⟩ => rfl
  | ⟨3, _⟩ =>
    have hc : c.val < 1 := c.isLt
    apply Fin.ext
    show c.val = 0
    omega

/-- The table entry the gather reads for `(b, n, r)`: image `b`, the row the start index gives, coordinate `r`. -/
theorem gather_operandIdx (r : Fin 5) (idx : IVec S8x4096x5x1 32) :
    gather_S8x128x5_S8x4096x5x1_S8x4096x5_n_1_02_02_1_3_111.operandIdx (ix3 b n r) idx
      = ix3 b ⟨min (idx (ix4 b n r 0)).toInt.toNat 127, by omega⟩ r := by
  funext a
  apply Fin.ext
  match a with
  | ⟨0, _⟩ =>
    show GatherDims.start _ _ _ _ + GatherDims.batchCoord _ _ _ + GatherDims.offCoord _ _ _ = b.val
    rw [GatherDims.start_batching _ _ _ _ (by decide +revert), GatherDims.offCoord_eq_zero _ _ _ (by decide +revert), Nat.zero_add, Nat.add_zero]
    unfold GatherDims.batchCoord
    rw [dif_pos (by decide +revert)]
    rfl
  | ⟨1, _⟩ =>
    show GatherDims.start _ _ _ _ + GatherDims.batchCoord _ _ _ + GatherDims.offCoord _ _ _ = min _ _
    rw [GatherDims.batchCoord_eq_zero _ _ _ (by decide +revert), GatherDims.offCoord_eq_zero _ _ _ (by decide +revert)]
    unfold GatherDims.start
    rw [dif_pos (by decide +revert)]
    rw [siIdx_eq]
    rfl
  | ⟨2, _⟩ =>
    show GatherDims.start _ _ _ _ + GatherDims.batchCoord _ _ _ + GatherDims.offCoord _ _ _ = r.val
    rw [GatherDims.start_batching _ _ _ _ (by decide +revert), GatherDims.offCoord_eq_zero _ _ _ (by decide +revert), Nat.zero_add, Nat.add_zero]
    unfold GatherDims.batchCoord
    rw [dif_pos (by decide +revert)]
    rfl

/-- An id in range is not negative, -/
theorem slt_of_inRange {id : BitVec 32} (h : InRange id) : IntOp.cmpi .slt id 0#32 = 0#1 := by
  show BitVec.ofBool (BitVec.slt id 0#32) = 0#1
  rw [BitVec.slt_eq_decide, decide_eq_false (by have := h.1; simp; omega)]
  rfl
/-- at least 0 -/
theorem sge_of_inRange {id : BitVec 32} (h : InRange id) : IntOp.cmpi .sge id 0#32 = 1#1 := by
  show BitVec.ofBool (BitVec.sle 0#32 id) = 1#1
  rw [BitVec.sle_eq_decide, decide_eq_true (by have := h.1; simp; omega)]
  rfl
/-- and at most 127. -/
theorem sle_of_inRange {id : BitVec 32} (h : InRange id) : IntOp.cmpi .sle id 127#32 = 1#1 := by
  show BitVec.ofBool (BitVec.sle id 127#32) = 1#1
  rw [BitVec.sle_eq_decide, decide_eq_true (by have := h.2; simp; omega)]
  rfl

/-- The start index: the id itself, when it is not negative. -/
theorem start_apply (h : InRange (A3 (ix2 b n))) (r : Fin 5) :
    val_main_call0_v5 (F := Ideal) A3 (ix4 b n r 0) = A3 (ix2 b n) := by
  pointwise [val_main_call0_v5, val_main_call0_v4, val_main_call0_v1, val_main_call0_v0, val_main_call0_c, val_main_v1, val_main_v0]
  rw [slt_of_inRange h]
  rfl

/-- The range check passes. -/
theorem check_apply (h : InRange (A3 (ix2 b n))) (r : Fin 5) :
    val_main_call0_v12 (F := Ideal) A3 (ix3 b n r) = 1#1 := by
  pointwise [val_main_call0_v12, val_main_call0_v11, val_main_call0_v10, val_main_call0_v9, val_main_call0_v8,
    val_main_call0_v7, val_main_call0_v6, val_main_call0_c_1, val_main_call0_c_2, val_main_call0_c_3]
  rw [Finset.univ_unique, Finset.fold_singleton]
  show IntOp.andi (IntOp.andi (IntOp.cmpi .sge (val_main_call0_v5 (F := Ideal) A3 (ix4 b n r 0)) 0#32)
    (IntOp.cmpi .sle (val_main_call0_v5 (F := Ideal) A3 (ix4 b n r 0)) 127#32)) 1#1 = 1#1
  rw [start_apply A3 b n h, sge_of_inRange h, sle_of_inRange h]
  rfl

/-- **The matched ground truth of box `(b, n)`**: the row of image `b`'s table that the id names. -/
theorem truth_apply (h : InRange (A3 (ix2 b n))) (r : Fin 5) :
    val_main_v2 (F := Ideal) A1 A3 (ix3 b n r) = A1 (ix3 b (row (A3 (ix2 b n))) r) := by
  rw [val_main_v2_apply, check_apply A3 b n h]
  show A1 (gather_S8x128x5_S8x4096x5x1_S8x4096x5_n_1_02_02_1_3_111.operandIdx (ix3 b n r) _) = _
  rw [gather_operandIdx]
  congr 2
  apply Fin.ext
  show min (val_main_call0_v5 (F := Ideal) A3 (ix4 b n r 0)).toInt.toNat 127 = (row (A3 (ix2 b n))).val
  rw [start_apply A3 b n h, toNat_of_inRange h]
  have := (row (A3 (ix2 b n))).isLt
  omega

end Cert.Roi

end
-- ==== Proof.RefValue.lean ====
/-
  What the reference computes: at box `n` of image `b`, the label map, the offsets and the class mask of that box's
  coordinates and its matched ground truth.
-/
module

public import proofs.«01_k».proof.Proof.RefGather

@[expose] public section

noncomputable section

namespace Cert.Roi

open Idealize.ShloMosaic Cert.ReferenceIdeal Cert.ReferenceIdeal.Read

variable (A0 : FVec Ideal S8x4096x4 .f32) (A1 : FVec Ideal S8x128x5 .f32) (A2 A3 : IVec S8x4096 32)
variable (b : Fin 8) (n : Fin 4096)

/-- The four coordinates of box `n` of image `b`. -/
def rbox : Fin 4 → EReal := fun r => A0 (ix3 b n r)
/-- Its matched ground truth. -/
def rtruth : Fin 5 → EReal := fun r => A1 (ix3 b (row (A3 (ix2 b n))) r)

/-! ## The zoomed box -/

/-- Left edge, -/
theorem v43_apply : val_main_v43 (F := Ideal) A0 (ix2 b n) = zoomLo (rbox A0 b n 0) (rbox A0 b n 2) := by
  pointwise [val_main_v43, val_main_v42, val_main_v41, val_main_v37, val_main_v38, val_main_v39, val_main_v40, val_main_v27,
    val_main_v26, val_main_v25, val_main_cst_3, val_main_v21, val_main_v20, val_main_cst_1, val_main_v19, val_main_v15,
    val_main_v14, val_main_cst, val_main_v13, val_main_v10, val_main_v9, val_main_v6, val_main_v5]
  rfl
/-- top edge, -/
theorem v45_apply : val_main_v45 (F := Ideal) A0 (ix2 b n) = zoomLo (rbox A0 b n 1) (rbox A0 b n 3) := by
  pointwise [val_main_v45, val_main_v44, val_main_v41, val_main_v37, val_main_v38, val_main_v39, val_main_v40, val_main_v30,
    val_main_v29, val_main_v28, val_main_cst_4, val_main_v24, val_main_v23, val_main_cst_2, val_main_v22, val_main_v18,
    val_main_v17, val_main_cst_0, val_main_v16, val_main_v12, val_main_v11, val_main_v8, val_main_v7]
  rfl
/-- right edge -/
theorem v47_apply : val_main_v47 (F := Ideal) A0 (ix2 b n) = zoomHi (rbox A0 b n 0) (rbox A0 b n 2) := by
  pointwise [val_main_v47, val_main_v46, val_main_v41, val_main_v37, val_main_v38, val_main_v39, val_main_v40, val_main_v33,
    val_main_v32, val_main_v31, val_main_cst_5, val_main_v21, val_main_v20, val_main_cst_1, val_main_v19, val_main_v15,
    val_main_v14, val_main_cst, val_main_v13, val_main_v10, val_main_v9, val_main_v6, val_main_v5]
  rfl
/-- and bottom edge. -/
theorem v49_apply : val_main_v49 (F := Ideal) A0 (ix2 b n) = zoomHi (rbox A0 b n 1) (rbox A0 b n 3) := by
  pointwise [val_main_v49, val_main_v48, val_main_v41, val_main_v37, val_main_v38, val_main_v39, val_main_v40, val_main_v36,
    val_main_v35, val_main_v34, val_main_cst_6, val_main_v24, val_main_v23, val_main_cst_2, val_main_v22, val_main_v18,
    val_main_v17, val_main_cst_0, val_main_v16, val_main_v12, val_main_v11, val_main_v8, val_main_v7]
  rfl

/-- A cell's width -/
theorem v72_apply : val_main_v72 (F := Ideal) A0 (ix2 b n) = cell (rbox A0 b n 0) (rbox A0 b n 2) := by
  pointwise [val_main_v72, val_main_v71, val_main_cst_9, val_main_v70, v43_apply, v47_apply]
  rfl
/-- and height. -/
theorem v75_apply : val_main_v75 (F := Ideal) A0 (ix2 b n) = cell (rbox A0 b n 1) (rbox A0 b n 3) := by
  pointwise [val_main_v75, val_main_v74, val_main_cst_10, val_main_v73, v45_apply, v49_apply]
  rfl

/-! ## The ground truth, measured from the zoomed box -/

variable (h : InRange (A3 (ix2 b n)))
include h

/-- The matched class. -/
theorem v4_apply : val_main_v4 (F := Ideal) A1 A3 (ix2 b n) = rtruth A1 A3 b n 4 := by
  pointwise [val_main_v4, val_main_v3]
  exact truth_apply A1 A3 b n h 4
/-- The four edges from the zoomed box's corner: left, -/
theorem v52_apply : val_main_v52 (F := Ideal) A0 A1 A3 (ix2 b n)
    = rel (rbox A0 b n 0) (rbox A0 b n 2) (rtruth A1 A3 b n 0) := by
  pointwise [val_main_v52, val_main_v51, val_main_v50, v43_apply]
  rw [truth_apply A1 A3 b n h]
  rfl
/-- top, -/
theorem v55_apply : val_main_v55 (F := Ideal) A0 A1 A3 (ix2 b n)
    = rel (rbox A0 b n 1) (rbox A0 b n 3) (rtruth A1 A3 b n 1) := by
  pointwise [val_main_v55, val_main_v54, val_main_v53, v45_apply]
  rw [truth_apply A1 A3 b n h]
  rfl
/-- right -/
theorem v58_apply : val_main_v58 (F := Ideal) A0 A1 A3 (ix2 b n)
    = rel (rbox A0 b n 0) (rbox A0 b n 2) (rtruth A1 A3 b n 2) := by
  pointwise [val_main_v58, val_main_v57, val_main_v56, v43_apply]
  rw [truth_apply A1 A3 b n h]
  rfl
/-- and bottom. -/
theorem v61_apply : val_main_v61 (F := Ideal) A0 A1 A3 (ix2 b n)
    = rel (rbox A0 b n 1) (rbox A0 b n 3) (rtruth A1 A3 b n 3) := by
  pointwise [val_main_v61, val_main_v60, val_main_v59, v45_apply]
  rw [truth_apply A1 A3 b n h]
  rfl

/-- Half the ground truth's width in cells, -/
theorem v84_apply : val_main_v84 (F := Ideal) A0 A1 A3 (ix2 b n)
    = sigma (rbox A0 b n 0) (rbox A0 b n 2) (rtruth A1 A3 b n 0) (rtruth A1 A3 b n 2) := by
  pointwise [val_main_v84, val_main_v83, val_main_v82, val_main_cst_11, val_main_v62, v72_apply]
  rw [v52_apply A0 A1 A3 b n h, v58_apply A0 A1 A3 b n h]
  rfl
/-- half its height in cells, -/
theorem v88_apply : val_main_v88 (F := Ideal) A0 A1 A3 (ix2 b n)
    = sigma (rbox A0 b n 1) (rbox A0 b n 3) (rtruth A1 A3 b n 1) (rtruth A1 A3 b n 3) := by
  pointwise [val_main_v88, val_main_v87, val_main_v86, val_main_cst_12, val_main_v63, v75_apply]
  rw [v55_apply A0 A1 A3 b n h, v61_apply A0 A1 A3 b n h]
  rfl
/-- its centre in cells, across -/
theorem v90_apply : val_main_v90 (F := Ideal) A0 A1 A3 (ix2 b n)
    = centre (rbox A0 b n 0) (rbox A0 b n 2) (rtruth A1 A3 b n 0) (rtruth A1 A3 b n 2) := by
  pointwise [val_main_v90, val_main_v66, val_main_v65, val_main_cst_7, val_main_v64, v72_apply]
  rw [v52_apply A0 A1 A3 b n h, v58_apply A0 A1 A3 b n h]
  rfl
/-- and down. -/
theorem v92_apply : val_main_v92 (F := Ideal) A0 A1 A3 (ix2 b n)
    = centre (rbox A0 b n 1) (rbox A0 b n 3) (rtruth A1 A3 b n 1) (rtruth A1 A3 b n 3) := by
  pointwise [val_main_v92, val_main_v69, val_main_v68, val_main_cst_8, val_main_v67, v75_apply]
  rw [v55_apply A0 A1 A3 b n h, v61_apply A0 A1 A3 b n h]
  rfl
/-- The four edges in cells. -/
theorem v128_apply : val_main_v128 (F := Ideal) A0 A1 A3 (ix2 b n)
    = edge (rbox A0 b n 0) (rbox A0 b n 2) (rtruth A1 A3 b n 0) := by
  pointwise [val_main_v128, v72_apply]
  rw [v52_apply A0 A1 A3 b n h]
  rfl
theorem v134_apply : val_main_v134 (F := Ideal) A0 A1 A3 (ix2 b n)
    = edge (rbox A0 b n 1) (rbox A0 b n 3) (rtruth A1 A3 b n 1) := by
  pointwise [val_main_v134, v75_apply]
  rw [v55_apply A0 A1 A3 b n h]
  rfl
theorem v140_apply : val_main_v140 (F := Ideal) A0 A1 A3 (ix2 b n)
    = edge (rbox A0 b n 0) (rbox A0 b n 2) (rtruth A1 A3 b n 2) := by
  pointwise [val_main_v140, v72_apply]
  rw [v58_apply A0 A1 A3 b n h]
  rfl
theorem v146_apply : val_main_v146 (F := Ideal) A0 A1 A3 (ix2 b n)
    = edge (rbox A0 b n 1) (rbox A0 b n 3) (rtruth A1 A3 b n 3) := by
  pointwise [val_main_v146, v75_apply]
  rw [v61_apply A0 A1 A3 b n h]
  rfl

/-! ## The three results, image by image -/

/-- The label map of box `n` of image `b`. -/
theorem v127_apply (y x : Fin 8) : val_main_v127 (F := Ideal) A0 A1 A3 (ix4 b n y x)
    = Label (rbox A0 b n) (rtruth A1 A3 b n) y.val x.val := by
  pointwise [val_main_v127, val_main_v126, val_main_cst_17, val_main_v125, val_main_v124, val_main_v123, val_main_v122,
    val_main_v121, val_main_v120, val_main_v119, val_main_v118, val_main_cst_16, val_main_v117, val_main_v116,
    val_main_v115, val_main_v114, val_main_v113, val_main_v112, val_main_v111, val_main_cst_15, val_main_v110,
    val_main_v109, val_main_v108, val_main_v107, val_main_v106, val_main_v105, val_main_v104, val_main_v103,
    val_main_cst_14, val_main_v102, val_main_v101, val_main_v100, val_main_v99, val_main_v98, val_main_v97,
    val_main_v96, val_main_cst_13, val_main_v95, val_main_v94, val_main_v93, val_main_v91, val_main_v89, val_main_v85,
    val_main_v81, val_main_v80, val_main_v79, val_main_v78, val_main_v77, val_main_v76,
    v84_apply A0 A1 A3 b n h, v88_apply A0 A1 A3 b n h, v90_apply A0 A1 A3 b n h, v92_apply A0 A1 A3 b n h]
  rfl

/-- The four offsets of box `n` of image `b`. -/
theorem v156_apply (e : Fin 4) (y x : Fin 8) : val_main_v156 (F := Ideal) A0 A1 A3 (ix5 b n e y x)
    = Offset (rbox A0 b n) (rtruth A1 A3 b n) e y.val x.val := by
  fin_cases e <;>
  pointwise [val_main_v156, val_main_v155, val_main_v154, val_main_v153, val_main_v152, val_main_v151, val_main_v150,
    val_main_v149, val_main_v148, val_main_cst_21, val_main_v147, val_main_v145, val_main_v144, val_main_v143,
    val_main_v142, val_main_cst_20, val_main_v141, val_main_v139, val_main_v138, val_main_v137, val_main_v136,
    val_main_cst_19, val_main_v135, val_main_v133, val_main_v132, val_main_v131, val_main_v130, val_main_cst_18,
    val_main_v129, val_main_v81, val_main_v80, val_main_v79, val_main_v78, val_main_v77, val_main_v76,
    v128_apply A0 A1 A3 b n h, v134_apply A0 A1 A3 b n h, v140_apply A0 A1 A3 b n h, v146_apply A0 A1 A3 b n h]
  all_goals rfl

/-- The class mask of box `n` of image `b`. -/
theorem v181_apply (k : Fin 8) : val_main_v181 (F := Ideal) A1 A2 A3 (ix3 b n k)
    = Mask (A2 (ix2 b n)) (rtruth A1 A3 b n) k.val := by
  pointwise [val_main_v181, val_main_v180, val_main_v179, val_main_v178, val_main_v177, val_main_v176, val_main_v175,
    val_main_v174, val_main_cst_25, val_main_v173, val_main_v172, val_main_v171, val_main_v170, val_main_v169,
    val_main_v168, val_main_v167, val_main_cst_24, val_main_v166, val_main_v165, val_main_cst_23, val_main_v164,
    val_main_v163, val_main_c_22, val_main_v162, val_main_v161, val_main_c, v4_apply A1 A3 b n h]
  rfl

end Cert.Roi

end
-- ==== Proof.RefArray.lean ====
/-
  The reference's three result arrays are `labels`, `offsets` and `masks`: a result's box number is the image number times
  4096 plus the place in the image.
-/
module

public import proofs.«01_k».proof.Proof.RefValue

@[expose] public section

noncomputable section

namespace Cert.Roi

open Idealize.ShloMosaic Cert.ReferenceIdeal Cert.ReferenceIdeal.Read

variable (A0 : FVec Ideal S8x4096x4 .f32) (A1 : FVec Ideal S8x128x5 .f32) (A2 A3 : IVec S8x4096 32)
variable (h : ∀ b n, InRange (A3 (ix2 b n)))

/-- Where box `q`'s label map lies before the image and place axes are merged. -/
theorem idx159_eq (i : S32768x8x8x8.Idx) : idx_main_v159 i = ix5 (img (i 0)) (place (i 0)) (i 1) (i 2) (i 3) := by
  have h0 : (i 0).val < 32768 := (i 0).isLt
  have h1 : (i 1).val < 8 := (i 1).isLt
  have h2 : (i 2).val < 8 := (i 2).isLt
  have h3 : (i 3).val < 8 := (i 3).isLt
  funext a
  apply Fin.ext
  match a with
  | ⟨0, _⟩ => show ((((i 0).val * 8 + (i 1).val) * 8 + (i 2).val) * 8 + (i 3).val) / 2097152 = (i 0).val / 4096; omega
  | ⟨1, _⟩ => show ((((i 0).val * 8 + (i 1).val) * 8 + (i 2).val) * 8 + (i 3).val) / 512 % 4096 = (i 0).val % 4096; omega
  | ⟨2, _⟩ => show ((((i 0).val * 8 + (i 1).val) * 8 + (i 2).val) * 8 + (i 3).val) / 64 % 8 = (i 1).val; omega
  | ⟨3, _⟩ => show ((((i 0).val * 8 + (i 1).val) * 8 + (i 2).val) * 8 + (i 3).val) / 8 % 8 = (i 2).val; omega
  | ⟨4, _⟩ => show ((((i 0).val * 8 + (i 1).val) * 8 + (i 2).val) * 8 + (i 3).val) % 8 = (i 3).val; omega

/-- Where its offsets lie. -/
theorem idx160_eq (i : S32768x4x8x8.Idx) : idx_main_v160 i = ix5 (img (i 0)) (place (i 0)) (i 1) (i 2) (i 3) := by
  have h0 : (i 0).val < 32768 := (i 0).isLt
  have h1 : (i 1).val < 4 := (i 1).isLt
  have h2 : (i 2).val < 8 := (i 2).isLt
  have h3 : (i 3).val < 8 := (i 3).isLt
  funext a
  apply Fin.ext
  match a with
  | ⟨0, _⟩ => show ((((i 0).val * 4 + (i 1).val) * 8 + (i 2).val) * 8 + (i 3).val) / 1048576 = (i 0).val / 4096; omega
  | ⟨1, _⟩ => show ((((i 0).val * 4 + (i 1).val) * 8 + (i 2).val) * 8 + (i 3).val) / 256 % 4096 = (i 0).val % 4096; omega
  | ⟨2, _⟩ => show ((((i 0).val * 4 + (i 1).val) * 8 + (i 2).val) * 8 + (i 3).val) / 64 % 4 = (i 1).val; omega
  | ⟨3, _⟩ => show ((((i 0).val * 4 + (i 1).val) * 8 + (i 2).val) * 8 + (i 3).val) / 8 % 8 = (i 2).val; omega
  | ⟨4, _⟩ => show ((((i 0).val * 4 + (i 1).val) * 8 + (i 2).val) * 8 + (i 3).val) % 8 = (i 3).val; omega

/-- Where its class mask lies. -/
theorem idx182_eq (i : S32768x8.Idx) : idx_main_v182 i = ix3 (img (i 0)) (place (i 0)) (i 1) := by
  have h0 : (i 0).val < 32768 := (i 0).isLt
  have h1 : (i 1).val < 8 := (i 1).isLt
  funext a
  apply Fin.ext
  match a with
  | ⟨0, _⟩ => show ((i 0).val * 8 + (i 1).val) / 32768 = (i 0).val / 4096; omega
  | ⟨1, _⟩ => show ((i 0).val * 8 + (i 1).val) / 8 % 4096 = (i 0).val % 4096; omega
  | ⟨2, _⟩ => show ((i 0).val * 8 + (i 1).val) % 8 = (i 1).val; omega

include h

/-- The label map is the same for every class. -/
theorem v158_apply (b : Fin 8) (n : Fin 4096) (c y x : Fin 8) :
    val_main_v158 (F := Ideal) A0 A1 A3 (ix5 b n c y x) = Label (rbox A0 b n) (rtruth A1 A3 b n) y.val x.val := by
  pointwise [val_main_v158, val_main_v157]
  exact v127_apply A0 A1 A3 b n (h b n) y x

/-- The reference's first result is the label maps of all boxes. -/
theorem ref_labels : val_main_v159 (F := Ideal) A0 A1 A3 = labels A0 A1 A3 := by
  funext i
  rw [val_main_v159_apply, idx159_eq]
  exact v158_apply A0 A1 A3 h (img (i 0)) (place (i 0)) (i 1) (i 2) (i 3)

/-- Its second is the offsets of all boxes. -/
theorem ref_offsets : val_main_v160 (F := Ideal) A0 A1 A3 = offsets A0 A1 A3 := by
  funext i
  rw [val_main_v160_apply, idx160_eq]
  exact v156_apply A0 A1 A3 (img (i 0)) (place (i 0)) (h _ _) (i 1) (i 2) (i 3)

/-- Its third is the class masks of all boxes. -/
theorem ref_masks : val_main_v182 (F := Ideal) A1 A2 A3 = masks A1 A2 A3 := by
  funext i
  rw [val_main_v182_apply, idx182_eq]
  exact v181_apply A1 A2 A3 (img (i 0)) (place (i 0)) (h _ _) (i 1)

end Cert.Roi

end
-- ==== Proof.lean ====
/-
  The claims about the target assignment of an RoI mask head. `labels`, `offsets` and `masks` (Proof/Spec.lean) are the
  three results as functions of the four arguments. At exact arithmetic the kernel's results are these arrays
  (Proof/KernelArray.lean) and so are the reference's (Proof/RefArray.lean), when every matched id names a row of the
  ground-truth table (`ids_in_range`).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_ids_in_range
public import proofs.«01_k».proof.Proof.KernelArray
public import proofs.«01_k».proof.Proof.RefArray
public import Idealize.ShloMosaic.Lib.Quiescent

@[expose] public section

noncomputable section

namespace Cert.Proof

open Idealize.ShloMosaic Idealize.ShloMosaic.TcCoe Idealize.SL.Sem Cert.Roi

/-- Two bits whose conjunction is set are both set. -/
theorem and_bits : ∀ a b : BitVec 1, IntOp.andi a b = 1#1 → a = 1#1 ∧ b = 1#1 := by decide

/-- The precondition says that every matched id is from 0 to 127. -/
theorem inRange_of_pre (A0 : FVec Ideal Cert.KernelIdeal.S8x4096x4 .f32) (A1 : FVec Ideal Cert.KernelIdeal.S8x128x5 .f32)
    (A2 A3 : IVec Cert.KernelIdeal.S8x4096 32)
    (h : Cert.Pre_ids_in_range.fn (F := Ideal) A0 A1 A2 A3 = fun _ => 1#1) (b : Fin 8) (n : Fin 4096) :
    InRange (A3 (ix2 b n)) := by
  have e : IntOp.andi (IntOp.cmpi .sge (A3 (ix2 b n)) 0#32) (IntOp.cmpi .slt (A3 (ix2 b n)) 128#32) = 1#1 :=
    congrFun h (ix2 b n)
  obtain ⟨e0, e1⟩ := and_bits _ _ e
  generalize A3 (ix2 b n) = v at e0 e1
  refine ⟨?_, ?_⟩
  · by_contra hn
    simp [IntOp.cmpi, BitVec.sle, hn] at e0
  · by_contra hn
    simp [IntOp.cmpi, BitVec.slt, hn] at e1

/-- The kernel runs at exact arithmetic, its results are the three arrays and its arguments are unchanged. -/
theorem kernel_run (m : (ℓ : Loc Cert.KernelIdeal.nD Cert.KernelIdeal.τ Cert.KernelIdeal.sig) → Buf (Elt Ideal) ℓ)
    (g : Dev Cert.KernelIdeal.nD → PrngReg) (h : ∀ c b n, InRange (a3 m c (ix2 b n))) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v8)
          = labels (a0 m c) (a1 m c) (a3 m c)
        ∧ r.2.mem ((c.tc : Thread Cert.KernelIdeal.nD Cert.KernelIdeal.τ).loc Cert.KernelIdeal.main_v9)
          = offsets (a0 m c) (a1 m c) (a3 m c)
        ∧ r.2.mem ((c.tc : Thread Cert.KernelIdeal.nD Cert.KernelIdeal.τ).loc Cert.KernelIdeal.main_v13)
          = masks (a1 m c) (a2 m c) (a3 m c)
        ∧ r.2.mem ((c.tc : Thread Cert.KernelIdeal.nD Cert.KernelIdeal.τ).loc Cert.KernelIdeal.main_arg0) = a0 m c
        ∧ r.2.mem ((c.tc : Thread Cert.KernelIdeal.nD Cert.KernelIdeal.τ).loc Cert.KernelIdeal.main_arg1) = a1 m c
        ∧ r.2.mem ((c.tc : Thread Cert.KernelIdeal.nD Cert.KernelIdeal.τ).loc Cert.KernelIdeal.main_arg2) = a2 m c
        ∧ r.2.mem ((c.tc : Thread Cert.KernelIdeal.nD Cert.KernelIdeal.τ).loc Cert.KernelIdeal.main_arg3) = a3 m c) :=
  (θ_run _ _ _).mono (fun _ H c =>
    ⟨((H c).2 Cert.KernelIdeal.main_v8 (Pipeline.mem_restRefs_of _ (by decide) (by decide))).trans (kernel_labels m c (h c)),
      ((H c).2 Cert.KernelIdeal.main_v9 (Pipeline.mem_restRefs_of _ (by decide) (by decide))).trans (kernel_offsets m c (h c)),
      ((H c).2 Cert.KernelIdeal.main_v13 (Pipeline.mem_restRefs_of _ (by decide) (by decide))).trans (kernel_masks m c (h c)),
      ((H c).2 Cert.KernelIdeal.main_arg0 (Pipeline.mem_restRefs_of _ (by decide) (by decide))).trans
        (Cert.KernelIdeal.Gen.W_main_arg0 m _ c),
      ((H c).2 Cert.KernelIdeal.main_arg1 (Pipeline.mem_restRefs_of _ (by decide) (by decide))).trans
        (Cert.KernelIdeal.Gen.W_main_arg1 m _ c),
      ((H c).2 Cert.KernelIdeal.main_arg2 (Pipeline.mem_restRefs_of _ (by decide) (by decide))).trans
        (Cert.KernelIdeal.Gen.W_main_arg2 m _ c),
      ((H c).2 Cert.KernelIdeal.main_arg3 (Pipeline.mem_restRefs_of _ (by decide) (by decide))).trans
        (Cert.KernelIdeal.Gen.W_main_arg3 m _ c)⟩)
    (Cert.KernelIdeal.Gen.run_main m g)

/-- The reference's frame: it runs, its arguments are unchanged, and it has no semaphore. -/
theorem reference_frame : Cert.quiescent_ReferenceIdeal := fun m g _ =>
  (θ_run _ _ _).mono (fun r H => ⟨fun c => (H c).2.2.2, sem_eq_zero_of_no_sems (by decide) r.2⟩)
    (Cert.ReferenceIdeal.Value.run (F := Ideal) m g)

/-- The reference runs at exact arithmetic from arguments `A0` to `A3`, its results are the three arrays and its arguments
    are unchanged. -/
theorem reference_run
    (m : (ℓ : Loc Cert.ReferenceIdeal.nD Cert.ReferenceIdeal.τ Cert.ReferenceIdeal.sig) → Buf (Elt Ideal) ℓ)
    (g : Dev Cert.ReferenceIdeal.nD → PrngReg)
    (A0 : Dev Cert.ReferenceIdeal.nD → FVec Ideal Cert.ReferenceIdeal.S8x4096x4 .f32)
    (A1 : Dev Cert.ReferenceIdeal.nD → FVec Ideal Cert.ReferenceIdeal.S8x128x5 .f32)
    (A2 A3 : Dev Cert.ReferenceIdeal.nD → IVec Cert.ReferenceIdeal.S8x4096 32)
    (e0 : ∀ c, StableHlo.launchContents m c (Proc.devRef .tc Cert.ReferenceIdeal.main_arg0) = A0 c)
    (e1 : ∀ c, StableHlo.launchContents m c (Proc.devRef .tc Cert.ReferenceIdeal.main_arg1) = A1 c)
    (e2 : ∀ c, StableHlo.launchContents m c (Proc.devRef .tc Cert.ReferenceIdeal.main_arg2) = A2 c)
    (e3 : ∀ c, StableHlo.launchContents m c (Proc.devRef .tc Cert.ReferenceIdeal.main_arg3) = A3 c)
    (h : ∀ c b n, InRange (A3 c (ix2 b n))) :
    θ_run (Cert.ReferenceIdeal.defs (F := Ideal))
      (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v159)
          = labels (A0 c) (A1 c) (A3 c)
        ∧ r.2.mem ((c.tc : Thread Cert.ReferenceIdeal.nD Cert.ReferenceIdeal.τ).loc Cert.ReferenceIdeal.main_v160)
          = offsets (A0 c) (A1 c) (A3 c)
        ∧ r.2.mem ((c.tc : Thread Cert.ReferenceIdeal.nD Cert.ReferenceIdeal.τ).loc Cert.ReferenceIdeal.main_v182)
          = masks (A1 c) (A2 c) (A3 c)
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3)) := by
  refine (θ_run _ _ _).mono (fun r H c => ?_) (Cert.ReferenceIdeal.Value.run (F := Ideal) m g)
  have k159 := (H c).1.trans (Cert.ReferenceIdeal.Read.val_main_v159_eq (StableHlo.launchContents m c))
  have k160 := (H c).2.1.trans (Cert.ReferenceIdeal.Read.val_main_v160_eq (StableHlo.launchContents m c))
  have k182 := (H c).2.2.1.trans (Cert.ReferenceIdeal.Read.val_main_v182_eq (StableHlo.launchContents m c))
  rw [e0, e1, e3] at k159 k160
  rw [e1, e2, e3] at k182
  exact ⟨k159.trans (ref_labels _ _ _ (h c)), k160.trans (ref_offsets _ _ _ (h c)), k182.trans (ref_masks _ _ _ (h c)),
    (H c).2.2.2⟩

/-- The kernel and the reference end with equal results. -/
theorem values : Cert.algebraic_KernelIdeal_ReferenceIdeal_pre_ids_in_range := by
  intro m g m' g' hpre hargs
  have h : ∀ c b n, InRange (a3 m c (ix2 b n)) := fun c => inRange_of_pre _ _ _ _ (hpre c)
  exact ⟨fun c => labels (a0 m c) (a1 m c) (a3 m c), fun c => offsets (a0 m c) (a1 m c) (a3 m c),
    fun c => masks (a1 m c) (a2 m c) (a3 m c), kernel_run m g h,
    reference_run m' g' (a0 m) (a1 m) (a2 m) (a3 m) (fun c => (hargs c).1) (fun c => (hargs c).2.1)
      (fun c => (hargs c).2.2.1) (fun c => (hargs c).2.2.2) h⟩

/-- Every claim of this directory. -/
theorem claim : Cert.Claim :=
  ⟨Cert.Kernel.Gen.facts, Cert.KernelIdeal.Gen.facts, Cert.ReferenceIdeal.Gen.facts, Cert.Pre_ids_in_range.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    values⟩

end Cert.Proof

end
